-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_WeightsIdeal (m : (ℓ : Loc Cert.WeightsIdeal.nD Cert.WeightsIdeal.τ Cert.WeightsIdeal.sig) → Buf (Elt Ideal) ℓ) : Prop :=
  True

def Pre_Ranks (m : (ℓ : Loc Cert.Ranks.nD Cert.Ranks.τ Cert.Ranks.sig) → Buf (Elt Bits) ℓ) : Prop :=
  True

def Pre_RanksIdeal (m : (ℓ : Loc Cert.RanksIdeal.nD Cert.RanksIdeal.τ Cert.RanksIdeal.sig) → Buf (Elt Ideal) ℓ) : Prop :=
  True

def Pre_RanksIdeal_scores_above [hPre_scores_above : Cert.Pre_scores_above.Facts] (m : (ℓ : Loc Cert.RanksIdeal.nD Cert.RanksIdeal.τ Cert.RanksIdeal.sig) → Buf (Elt Ideal) ℓ) : Prop :=
  ∀ c : Dev Cert.RanksIdeal.nD,
    (Cert.Pre_scores_above.fn (F := Ideal) (m ((c.tc : Thread Cert.RanksIdeal.nD Cert.RanksIdeal.τ).loc Cert.RanksIdeal.main_arg0)) (m ((c.tc : Thread Cert.RanksIdeal.nD Cert.RanksIdeal.τ).loc Cert.RanksIdeal.main_arg1))) = (fun _ => 1#1)

def Pre_OrderIdeal (m : (ℓ : Loc Cert.OrderIdeal.nD Cert.OrderIdeal.τ Cert.OrderIdeal.sig) → Buf (Elt Ideal) ℓ) : Prop :=
  True

def Pre_OrderIdeal_scores_above [hPre_scores_above : Cert.Pre_scores_above.Facts] (m : (ℓ : Loc Cert.OrderIdeal.nD Cert.OrderIdeal.τ Cert.OrderIdeal.sig) → Buf (Elt Ideal) ℓ) : Prop :=
  ∀ c : Dev Cert.OrderIdeal.nD,
    (Cert.Pre_scores_above.fn (F := Ideal) (m ((c.tc : Thread Cert.OrderIdeal.nD Cert.OrderIdeal.τ).loc Cert.OrderIdeal.main_arg0)) (m ((c.tc : Thread Cert.OrderIdeal.nD Cert.OrderIdeal.τ).loc Cert.OrderIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1))
      ∧ r.2.sem = fun _ => 0)

def quiescent_Ranks [hRanks : Cert.Ranks.Facts] : Prop :=
  ∀ (m : (ℓ : Loc Cert.Ranks.nD Cert.Ranks.τ Cert.Ranks.sig) → Buf (Elt Bits) ℓ) (g : Dev Cert.Ranks.nD → PrngReg), Pre_Ranks m →
    θ_run (Cert.Ranks.defs (F := Bits)) (onTc (τ := Cert.Ranks.τ) (Cert.Ranks.main (F := Bits))) ⟨m, fun _ => 0, g⟩ (fun r => (∀ c : Dev Cert.Ranks.nD,
      r.2.mem ((c.tc : Thread Cert.Ranks.nD Cert.Ranks.τ).loc Cert.Ranks.main_arg0) = m ((c.tc : Thread Cert.Ranks.nD Cert.Ranks.τ).loc Cert.Ranks.main_arg0)
      ∧ r.2.mem ((c.tc : Thread Cert.Ranks.nD Cert.Ranks.τ).loc Cert.Ranks.main_arg1) = m ((c.tc : Thread Cert.Ranks.nD Cert.Ranks.τ).loc Cert.Ranks.main_arg1))
      ∧ r.2.sem = fun _ => 0)

def quiescent_RanksIdeal [hRanksIdeal : Cert.RanksIdeal.Facts] : Prop :=
  ∀ (m : (ℓ : Loc Cert.RanksIdeal.nD Cert.RanksIdeal.τ Cert.RanksIdeal.sig) → Buf (Elt Ideal) ℓ) (g : Dev Cert.RanksIdeal.nD → PrngReg), Pre_RanksIdeal m →
    θ_run (Cert.RanksIdeal.defs (F := Ideal)) (onTc (τ := Cert.RanksIdeal.τ) (Cert.RanksIdeal.main (F := Ideal))) ⟨m, fun _ => 0, g⟩ (fun r => (∀ c : Dev Cert.RanksIdeal.nD,
      r.2.mem ((c.tc : Thread Cert.RanksIdeal.nD Cert.RanksIdeal.τ).loc Cert.RanksIdeal.main_arg0) = m ((c.tc : Thread Cert.RanksIdeal.nD Cert.RanksIdeal.τ).loc Cert.RanksIdeal.main_arg0)
      ∧ r.2.mem ((c.tc : Thread Cert.RanksIdeal.nD Cert.RanksIdeal.τ).loc Cert.RanksIdeal.main_arg1) = m ((c.tc : Thread Cert.RanksIdeal.nD Cert.RanksIdeal.τ).loc Cert.RanksIdeal.main_arg1))
      ∧ r.2.sem = fun _ => 0)

def quiescent_RanksIdeal_pre_scores_above [hRanksIdeal : Cert.RanksIdeal.Facts] [hPre_scores_above : Cert.Pre_scores_above.Facts] : Prop :=
  ∀ (m : (ℓ : Loc Cert.RanksIdeal.nD Cert.RanksIdeal.τ Cert.RanksIdeal.sig) → Buf (Elt Ideal) ℓ) (g : Dev Cert.RanksIdeal.nD → PrngReg), Pre_RanksIdeal_scores_above m →
    θ_run (Cert.RanksIdeal.defs (F := Ideal)) (onTc (τ := Cert.RanksIdeal.τ) (Cert.RanksIdeal.main (F := Ideal))) ⟨m, fun _ => 0, g⟩ (fun r => (∀ c : Dev Cert.RanksIdeal.nD,
      r.2.mem ((c.tc : Thread Cert.RanksIdeal.nD Cert.RanksIdeal.τ).loc Cert.RanksIdeal.main_arg0) = m ((c.tc : Thread Cert.RanksIdeal.nD Cert.RanksIdeal.τ).loc Cert.RanksIdeal.main_arg0)
      ∧ r.2.mem ((c.tc : Thread Cert.RanksIdeal.nD Cert.RanksIdeal.τ).loc Cert.RanksIdeal.main_arg1) = m ((c.tc : Thread Cert.RanksIdeal.nD Cert.RanksIdeal.τ).loc Cert.RanksIdeal.main_arg1))
      ∧ r.2.sem = fun _ => 0)

def quiescent_OrderIdeal [hOrderIdeal : Cert.OrderIdeal.Facts] : Prop :=
  ∀ (m : (ℓ : Loc Cert.OrderIdeal.nD Cert.OrderIdeal.τ Cert.OrderIdeal.sig) → Buf (Elt Ideal) ℓ) (g : Dev Cert.OrderIdeal.nD → PrngReg), Pre_OrderIdeal m →
    θ_run (Cert.OrderIdeal.defs (F := Ideal)) (onTc (τ := Cert.OrderIdeal.τ) (Cert.OrderIdeal.main (F := Ideal))) ⟨m, fun _ => 0, g⟩ (fun r => (∀ c : Dev Cert.OrderIdeal.nD,
      r.2.mem ((c.tc : Thread Cert.OrderIdeal.nD Cert.OrderIdeal.τ).loc Cert.OrderIdeal.main_arg0) = m ((c.tc : Thread Cert.OrderIdeal.nD Cert.OrderIdeal.τ).loc Cert.OrderIdeal.main_arg0)
      ∧ r.2.mem ((c.tc : Thread Cert.OrderIdeal.nD Cert.OrderIdeal.τ).loc Cert.OrderIdeal.main_arg1) = m ((c.tc : Thread Cert.OrderIdeal.nD Cert.OrderIdeal.τ).loc Cert.OrderIdeal.main_arg1))
      ∧ r.2.sem = fun _ => 0)

def quiescent_OrderIdeal_pre_scores_above [hOrderIdeal : Cert.OrderIdeal.Facts] [hPre_scores_above : Cert.Pre_scores_above.Facts] : Prop :=
  ∀ (m : (ℓ : Loc Cert.OrderIdeal.nD Cert.OrderIdeal.τ Cert.OrderIdeal.sig) → Buf (Elt Ideal) ℓ) (g : Dev Cert.OrderIdeal.nD → PrngReg), Pre_OrderIdeal_scores_above m →
    θ_run (Cert.OrderIdeal.defs (F := Ideal)) (onTc (τ := Cert.OrderIdeal.τ) (Cert.OrderIdeal.main (F := Ideal))) ⟨m, fun _ => 0, g⟩ (fun r => (∀ c : Dev Cert.OrderIdeal.nD,
      r.2.mem ((c.tc : Thread Cert.OrderIdeal.nD Cert.OrderIdeal.τ).loc Cert.OrderIdeal.main_arg0) = m ((c.tc : Thread Cert.OrderIdeal.nD Cert.OrderIdeal.τ).loc Cert.OrderIdeal.main_arg0)
      ∧ r.2.mem ((c.tc : Thread Cert.OrderIdeal.nD Cert.OrderIdeal.τ).loc Cert.OrderIdeal.main_arg1) = m ((c.tc : Thread Cert.OrderIdeal.nD Cert.OrderIdeal.τ).loc Cert.OrderIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v200) = v1 c
          ∧ r.2.mem ((c.tc : Thread Cert.ReferenceIdeal.nD Cert.ReferenceIdeal.τ).loc Cert.ReferenceIdeal.main_v201) = v2 c
          ∧ r.2.mem ((c.tc : Thread Cert.ReferenceIdeal.nD Cert.ReferenceIdeal.τ).loc Cert.ReferenceIdeal.main_v202) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Select_SelectIdeal : Prop :=
  True

def algebraic_SelectIdeal_WeightsIdeal [hSelectIdeal : Cert.SelectIdeal.Facts] [hWeightsIdeal : Cert.WeightsIdeal.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.WeightsIdeal.nD Cert.WeightsIdeal.τ Cert.WeightsIdeal.sig) → Buf (Elt Ideal) ℓ) (g' : Dev Cert.WeightsIdeal.nD → PrngReg), Pre_SelectIdeal m →
    (∀ c : Dev Cert.SelectIdeal.nD,
      m' ((c.tc : Thread Cert.WeightsIdeal.nD Cert.WeightsIdeal.τ).loc Cert.WeightsIdeal.main_arg0) = m ((c.tc : Thread Cert.SelectIdeal.nD Cert.SelectIdeal.τ).loc Cert.SelectIdeal.main_arg0)
      ∧ m' ((c.tc : Thread Cert.WeightsIdeal.nD Cert.WeightsIdeal.τ).loc Cert.WeightsIdeal.main_arg1) = m ((c.tc : Thread Cert.SelectIdeal.nD Cert.SelectIdeal.τ).loc Cert.SelectIdeal.main_arg1)) →
    ∃ (v0 : (c : Dev Cert.SelectIdeal.nD) → Buf (Elt Ideal) ((c.tc : Thread Cert.SelectIdeal.nD Cert.SelectIdeal.τ).loc Cert.SelectIdeal.main_v0_3)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v0_3) = v0 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ θ_run (Cert.WeightsIdeal.defs (F := Ideal)) (onTc (τ := Cert.WeightsIdeal.τ) (Cert.WeightsIdeal.main (F := Ideal))) ⟨m', fun _ => 0, g'⟩ (fun r => ∀ c : Dev Cert.WeightsIdeal.nD,
          r.2.mem ((c.tc : Thread Cert.WeightsIdeal.nD Cert.WeightsIdeal.τ).loc Cert.WeightsIdeal.main_v6) = v0 c
          ∧ r.2.mem ((c.tc : Thread Cert.WeightsIdeal.nD Cert.WeightsIdeal.τ).loc Cert.WeightsIdeal.main_arg0) = m' ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m' ((c.tc : Thread Cert.WeightsIdeal.nD Cert.WeightsIdeal.τ).loc Cert.WeightsIdeal.main_arg1))

def preserves_Ranks_RanksIdeal : Prop :=
  True

def algebraic_RanksIdeal_OrderIdeal_pre_scores_above [hRanksIdeal : Cert.RanksIdeal.Facts] [hOrderIdeal : Cert.OrderIdeal.Facts] [hPre_scores_above : Cert.Pre_scores_above.Facts] : Prop :=
  ∀ (m : (ℓ : Loc Cert.RanksIdeal.nD Cert.RanksIdeal.τ Cert.RanksIdeal.sig) → Buf (Elt Ideal) ℓ) (g : Dev Cert.RanksIdeal.nD → PrngReg)
    (m' : (ℓ : Loc Cert.OrderIdeal.nD Cert.OrderIdeal.τ Cert.OrderIdeal.sig) → Buf (Elt Ideal) ℓ) (g' : Dev Cert.OrderIdeal.nD → PrngReg), Pre_RanksIdeal_scores_above m →
    (∀ c : Dev Cert.RanksIdeal.nD,
      m' ((c.tc : Thread Cert.OrderIdeal.nD Cert.OrderIdeal.τ).loc Cert.OrderIdeal.main_arg0) = m ((c.tc : Thread Cert.RanksIdeal.nD Cert.RanksIdeal.τ).loc Cert.RanksIdeal.main_arg0)
      ∧ m' ((c.tc : Thread Cert.OrderIdeal.nD Cert.OrderIdeal.τ).loc Cert.OrderIdeal.main_arg1) = m ((c.tc : Thread Cert.RanksIdeal.nD Cert.RanksIdeal.τ).loc Cert.RanksIdeal.main_arg1)) →
    ∃ (v0 : (c : Dev Cert.RanksIdeal.nD) → Buf (Elt Ideal) ((c.tc : Thread Cert.RanksIdeal.nD Cert.RanksIdeal.τ).loc Cert.RanksIdeal.main_v0_0)),
      θ_run (Cert.RanksIdeal.defs (F := Ideal)) (onTc (τ := Cert.RanksIdeal.τ) (Cert.RanksIdeal.main (F := Ideal))) ⟨m, fun _ => 0, g⟩ (fun r => ∀ c : Dev Cert.RanksIdeal.nD,
          r.2.mem ((c.tc : Thread Cert.RanksIdeal.nD Cert.RanksIdeal.τ).loc Cert.RanksIdeal.main_v0_0) = v0 c
          ∧ r.2.mem ((c.tc : Thread Cert.RanksIdeal.nD Cert.RanksIdeal.τ).loc Cert.RanksIdeal.main_arg0) = m ((c.tc : Thread Cert.RanksIdeal.nD Cert.RanksIdeal.τ).loc Cert.RanksIdeal.main_arg0)
          ∧ r.2.mem ((c.tc : Thread Cert.RanksIdeal.nD Cert.RanksIdeal.τ).loc Cert.RanksIdeal.main_arg1) = m ((c.tc : Thread Cert.RanksIdeal.nD Cert.RanksIdeal.τ).loc Cert.RanksIdeal.main_arg1))
      ∧ θ_run (Cert.OrderIdeal.defs (F := Ideal)) (onTc (τ := Cert.OrderIdeal.τ) (Cert.OrderIdeal.main (F := Ideal))) ⟨m', fun _ => 0, g'⟩ (fun r => ∀ c : Dev Cert.OrderIdeal.nD,
          r.2.mem ((c.tc : Thread Cert.OrderIdeal.nD Cert.OrderIdeal.τ).loc Cert.OrderIdeal.main_v22) = v0 c
          ∧ r.2.mem ((c.tc : Thread Cert.OrderIdeal.nD Cert.OrderIdeal.τ).loc Cert.OrderIdeal.main_arg0) = m' ((c.tc : Thread Cert.OrderIdeal.nD Cert.OrderIdeal.τ).loc Cert.OrderIdeal.main_arg0)
          ∧ r.2.mem ((c.tc : Thread Cert.OrderIdeal.nD Cert.OrderIdeal.τ).loc Cert.OrderIdeal.main_arg1) = m' ((c.tc : Thread Cert.OrderIdeal.nD Cert.OrderIdeal.τ).loc Cert.OrderIdeal.main_arg1))

def Claim : Prop :=
  ∃ (hKernel : Cert.Kernel.Facts) (hKernelIdeal : Cert.KernelIdeal.Facts) (hReferenceIdeal : Cert.ReferenceIdeal.Facts) (hSelect : Cert.Select.Facts) (hSelectIdeal : Cert.SelectIdeal.Facts) (hWeightsIdeal : Cert.WeightsIdeal.Facts) (hRanks : Cert.Ranks.Facts) (hRanksIdeal : Cert.RanksIdeal.Facts) (hOrderIdeal : Cert.OrderIdeal.Facts) (hPre_scores_above : Cert.Pre_scores_above.Facts),
    quiescent_Kernel (hKernel := hKernel)
    ∧ quiescent_KernelIdeal (hKernelIdeal := hKernelIdeal)
    ∧ quiescent_ReferenceIdeal (hReferenceIdeal := hReferenceIdeal)
    ∧ quiescent_Select (hSelect := hSelect)
    ∧ quiescent_SelectIdeal (hSelectIdeal := hSelectIdeal)
    ∧ quiescent_WeightsIdeal (hWeightsIdeal := hWeightsIdeal)
    ∧ quiescent_Ranks (hRanks := hRanks)
    ∧ quiescent_RanksIdeal (hRanksIdeal := hRanksIdeal)
    ∧ quiescent_RanksIdeal_pre_scores_above (hRanksIdeal := hRanksIdeal) (hPre_scores_above := hPre_scores_above)
    ∧ quiescent_OrderIdeal (hOrderIdeal := hOrderIdeal)
    ∧ quiescent_OrderIdeal_pre_scores_above (hOrderIdeal := hOrderIdeal) (hPre_scores_above := hPre_scores_above)
    ∧ preserves_Kernel_KernelIdeal
    ∧ algebraic_KernelIdeal_ReferenceIdeal (hKernelIdeal := hKernelIdeal) (hReferenceIdeal := hReferenceIdeal)
    ∧ preserves_Select_SelectIdeal
    ∧ algebraic_SelectIdeal_WeightsIdeal (hSelectIdeal := hSelectIdeal) (hWeightsIdeal := hWeightsIdeal)
    ∧ preserves_Ranks_RanksIdeal
    ∧ algebraic_RanksIdeal_OrderIdeal_pre_scores_above (hRanksIdeal := hRanksIdeal) (hOrderIdeal := hOrderIdeal) (hPre_scores_above := hPre_scores_above)
-- ==== Pre_scores_above.lean ====
abbrev S8x128x16384 : Shape := ⟨3, ![8, 128, 16384]⟩
abbrev S_ : Shape := ⟨0, ![]⟩

class Facts : Prop where
  bcast_S_S8x128x16384 : S_.BroadcastsInDim S8x128x16384 (![] : Fin 0 → Fin S8x128x16384.rank)

variable [Facts]

def fn {F : FTy → Type} [FloatOps F] (main_arg0 : FVec F S8x128x16384 .f32) (main_arg1 : FVec F S8x128x16384 .f32) : IVec S8x128x16384 1 :=
  let main_cst : FVec F S_ .f32 := constant S_ .f32 0xFF800000#32
  let main_v0 : FVec F S8x128x16384 .f32 := broadcastInDim S8x128x16384 ![] bcast_S_S8x128x16384 main_cst
  let main_v1 : IVec S8x128x16384 1 := cmpf .ogt main_arg1 main_v0
  main_v1
-- ==== Kernel.lean ====
abbrev S2x8192x1024 : Shape := ⟨3, ![2, 8192, 1024]⟩
abbrev S2x8192 : Shape := ⟨2, ![2, 8192]⟩
abbrev S1x1024x2304 : Shape := ⟨3, ![1, 1024, 2304]⟩
abbrev S1x2304 : Shape := ⟨2, ![1, 2304]⟩
abbrev S1x8 : Shape := ⟨2, ![1, 8]⟩
abbrev S1x3x512 : Shape := ⟨3, ![1, 3, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x128x128 : Shape := ⟨3, ![1, 128, 128]⟩
abbrev S8 : Shape := ⟨1, ![8]⟩
abbrev S_ : Shape := ⟨0, ![]⟩
abbrev S16384x1 : Shape := ⟨2, ![16384, 1]⟩
abbrev S16384x8 : Shape := ⟨2, ![16384, 8]⟩
abbrev S16384x48 : Shape := ⟨2, ![16384, 48]⟩
abbrev S16384x64 : Shape := ⟨2, ![16384, 64]⟩
abbrev S16384x56 : Shape := ⟨2, ![16384, 56]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S16384x1024 : Shape := ⟨2, ![16384, 1024]⟩
abbrev S1024x2304 : Shape := ⟨2, ![1024, 2304]⟩
abbrev S3x512 : Shape := ⟨2, ![3, 512]⟩
abbrev S1024x1024 : Shape := ⟨2, ![1024, 1024]⟩
abbrev S1024x2048 : Shape := ⟨2, ![1024, 2048]⟩
abbrev S128x128 : Shape := ⟨2, ![128, 128]⟩
abbrev S1024x16384 : Shape := ⟨2, ![1024, 16384]⟩
abbrev S8x128x16384 : Shape := ⟨3, ![8, 128, 16384]⟩
abbrev S256x1024 : Shape := ⟨2, ![256, 1024]⟩
abbrev S256x128 : Shape := ⟨2, ![256, 128]⟩
abbrev S1024x256 : Shape := ⟨2, ![1024, 256]⟩
abbrev S8x128x256 : Shape := ⟨3, ![8, 128, 256]⟩
abbrev S384x128 : Shape := ⟨2, ![384, 128]⟩
abbrev S264x512 : Shape := ⟨2, ![264, 512]⟩
abbrev S4x384x128 : Shape := ⟨3, ![4, 384, 128]⟩
abbrev S8x512 : Shape := ⟨2, ![8, 512]⟩
abbrev S1024x128 : Shape := ⟨2, ![1024, 128]⟩
abbrev S1x128 : Shape := ⟨2, ![1, 128]⟩
abbrev S1x384x128 : Shape := ⟨3, ![1, 384, 128]⟩
abbrev S128x256 : Shape := ⟨2, ![128, 256]⟩
abbrev S1x256x128 : Shape := ⟨3, ![1, 256, 128]⟩
abbrev S1 : Shape := ⟨1, ![1]⟩
abbrev S128 : Shape := ⟨1, ![128]⟩
abbrev S128x1 : Shape := ⟨2, ![128, 1]⟩
abbrev S1024x512 : Shape := ⟨2, ![1024, 512]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S256x2048 : Shape := ⟨2, ![256, 2048]⟩
abbrev S1x128x256 : Shape := ⟨3, ![1, 128, 256]⟩

abbrev nBuf : Space → Nat
  | .hbm => 73
  | .vmem => 32
  | .smem => 1
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1x1024x2304, .f32⟩
  | .hbm, ⟨3, _⟩ => ⟨S1x2304, .f32⟩
  | .hbm, ⟨4, _⟩ => ⟨S1x8, .f32⟩
  | .hbm, ⟨5, _⟩ => ⟨S1x3x512, .f32⟩
  | .hbm, ⟨6, _⟩ => ⟨S1x1024x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024x2048, .f32⟩
  | .hbm, ⟨11, _⟩ => ⟨S1x128x128, .f32⟩
  | .hbm, ⟨12, _⟩ => ⟨S1x128x128, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S16384x1, .i32⟩
  | .hbm, ⟨28, _⟩ => ⟨S16384x1, .f32⟩
  | .hbm, ⟨29, _⟩ => ⟨S1x8, .f32⟩
  | .hbm, ⟨30, _⟩ => ⟨S16384x8, .f32⟩
  | .hbm, ⟨31, _⟩ => ⟨S16384x8, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S_, .f32⟩
  | .hbm, ⟨36, _⟩ => ⟨S16384x48, .f32⟩
  | .hbm, ⟨37, _⟩ => ⟨S16384x64, .f32⟩
  | .hbm, ⟨38, _⟩ => ⟨S16384x8, .f32⟩
  | .hbm, ⟨39, _⟩ => ⟨S_, .f32⟩
  | .hbm, ⟨40, _⟩ => ⟨S16384x56, .f32⟩
  | .hbm, ⟨41, _⟩ => ⟨S16384x64, .f32⟩
  | .hbm, ⟨42, _⟩ => ⟨S_, .f32⟩
  | .hbm, ⟨43, _⟩ => ⟨S16384x8, .f32⟩
  | .hbm, ⟨44, _⟩ => ⟨S_, .f32⟩
  | .hbm, ⟨45, _⟩ => ⟨S16384x48, .f32⟩
  | .hbm, ⟨46, _⟩ => ⟨S16384x64, .f32⟩
  | .hbm, ⟨47, _⟩ => ⟨S1x16384x1x64, .f32⟩
  | .hbm, ⟨48, _⟩ => ⟨S1x16384x2x64, .f32⟩
  | .hbm, ⟨49, _⟩ => ⟨S16384x128, .f32⟩
  | .hbm, ⟨50, _⟩ => ⟨S1x16384x1x64, .f32⟩
  | .hbm, ⟨51, _⟩ => ⟨S1x16384x2x64, .f32⟩
  | .hbm, ⟨52, _⟩ => ⟨S16384x128, .f32⟩
  | .hbm, ⟨53, _⟩ => ⟨S1x16384x1x64, .f32⟩
  | .hbm, ⟨54, _⟩ => ⟨S1x16384x2x64, .f32⟩
  | .hbm, ⟨55, _⟩ => ⟨S16384x128, .f32⟩
  | .hbm, ⟨56, _⟩ => ⟨S16384x1024, .f32⟩
  | .hbm, ⟨57, _⟩ => ⟨S8, .f32⟩
  | .hbm, ⟨58, _⟩ => ⟨S1024x2304, .f32⟩
  | .hbm, ⟨59, _⟩ => ⟨S1024x2304, .bf16⟩
  | .hbm, ⟨60, _⟩ => ⟨S3x512, .f32⟩
  | .hbm, ⟨61, _⟩ => ⟨S1024x1024, .f32⟩
  | .hbm, ⟨62, _⟩ => ⟨S1024x1024, .bf16⟩
  | .hbm, ⟨63, _⟩ => ⟨S1024x2048, .f32⟩
  | .hbm, ⟨64, _⟩ => ⟨S1024x2048, .bf16⟩
  | .hbm, ⟨65, _⟩ => ⟨S128x128, .f32⟩
  | .hbm, ⟨66, _⟩ => ⟨S128x128, .bf16⟩
  | .hbm, ⟨67, _⟩ => ⟨S128x128, .f32⟩
  | .hbm, ⟨68, _⟩ => ⟨S128x128, .bf16⟩
  | .hbm, ⟨69, _⟩ => ⟨S16384x1024, .f32⟩
  | .hbm, ⟨70, _⟩ => ⟨S1024x16384, .bf16⟩
  | .hbm, ⟨71, _⟩ => ⟨S8x128x16384, .f32⟩
  | .hbm, ⟨72, _⟩ => ⟨S8x128x16384, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1024x2304, .bf16⟩
  | .local _ .vmem, ⟨9, _⟩ => ⟨S1x2304, .f32⟩
  | .local _ .vmem, ⟨10, _⟩ => ⟨S3x512, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x2048, .bf16⟩
  | .local _ .vmem, ⟨16, _⟩ => ⟨S128x128, .bf16⟩
  | .local _ .vmem, ⟨17, _⟩ => ⟨S128x128, .bf16⟩
  | .local _ .vmem, ⟨18, _⟩ => ⟨S256x1024, .f32⟩
  | .local _ .vmem, ⟨19, _⟩ => ⟨S256x1024, .f32⟩
  | .local _ .vmem, ⟨20, _⟩ => ⟨S1024x256, .bf16⟩
  | .local _ .vmem, ⟨21, _⟩ => ⟨S1024x256, .bf16⟩
  | .local _ .vmem, ⟨22, _⟩ => ⟨S8x128x256, .f32⟩
  | .local _ .vmem, ⟨23, _⟩ => ⟨S8x128x256, .f32⟩
  | .local _ .vmem, ⟨24, _⟩ => ⟨S8x128x256, .f32⟩
  | .local _ .vmem, ⟨25, _⟩ => ⟨S8x128x256, .f32⟩
  | .local _ .vmem, ⟨26, _⟩ => ⟨S384x128, .f32⟩
  | .local _ .vmem, ⟨27, _⟩ => ⟨S384x128, .f32⟩
  | .local _ .vmem, ⟨28, _⟩ => ⟨S264x512, .f32⟩
  | .local _ .vmem, ⟨29, _⟩ => ⟨S4x384x128, .bf16⟩
  | .local _ .vmem, ⟨30, _⟩ => ⟨S4x384x128, .bf16⟩
  | .local _ .vmem, ⟨31, _⟩ => ⟨S256x1024, .bf16⟩
  | .local _ .smem, ⟨0, _⟩ => ⟨S8, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_cst_6 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48_0 : Ref sig .tc := ⟨.hbm, 69, rfl⟩
abbrev main_v48_1 : Ref sig .tc := ⟨.hbm, 70, rfl⟩
abbrev main_v48_2 : Ref sig .tc := ⟨.hbm, 71, rfl⟩
abbrev main_v48_3 : Ref sig .tc := ⟨.hbm, 72, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S2x8192x1024 : Shape := ⟨3, ![2, 8192, 1024]⟩
abbrev S2x8192 : Shape := ⟨2, ![2, 8192]⟩
abbrev S1x1024x2304 : Shape := ⟨3, ![1, 1024, 2304]⟩
abbrev S1x2304 : Shape := ⟨2, ![1, 2304]⟩
abbrev S1x8 : Shape := ⟨2, ![1, 8]⟩
abbrev S1x3x512 : Shape := ⟨3, ![1, 3, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x128x128 : Shape := ⟨3, ![1, 128, 128]⟩
abbrev S8 : Shape := ⟨1, ![8]⟩
abbrev S_ : Shape := ⟨0, ![]⟩
abbrev S2x8192x1 : Shape := ⟨3, ![2, 8192, 1]⟩
abbrev S1x1x8 : Shape := ⟨3, ![1, 1, 8]⟩
abbrev S2x8192x8 : Shape := ⟨3, ![2, 8192, 8]⟩
abbrev S2x8192x1x8 : Shape := ⟨4, ![2, 8192, 1, 8]⟩
abbrev S1024x2304 : Shape := ⟨2, ![1024, 2304]⟩
abbrev S2304 : Shape := ⟨1, ![2304]⟩
abbrev S3x512 : Shape := ⟨2, ![3, 512]⟩
abbrev S1024x1024 : Shape := ⟨2, ![1024, 1024]⟩
abbrev S1024 : Shape := ⟨1, ![1024]⟩
abbrev S2x8192x2304 : Shape := ⟨3, ![2, 8192, 2304]⟩
abbrev S1x1x2304 : Shape := ⟨3, ![1, 1, 2304]⟩
abbrev S2x8192x512 : Shape := ⟨3, ![2, 8192, 512]⟩
abbrev S2x8192x8x64 : Shape := ⟨4, ![2, 8192, 8, 64]⟩
abbrev S2x8192x128 : Shape := ⟨3, ![2, 8192, 128]⟩
abbrev S2x8192x2x64 : Shape := ⟨4, ![2, 8192, 2, 64]⟩
abbrev S2x8192x8x8 : Shape := ⟨4, ![2, 8192, 8, 8]⟩
abbrev S2x8192x8x48 : Shape := ⟨4, ![2, 8192, 8, 48]⟩
abbrev S2x8192x2x8 : Shape := ⟨4, ![2, 8192, 2, 8]⟩
abbrev S2x8192x2x48 : Shape := ⟨4, ![2, 8192, 2, 48]⟩
abbrev S2x64x128x2x4x64 : Shape := ⟨6, ![2, 64, 128, 2, 4, 64]⟩
abbrev S2x8320x2x64 : Shape := ⟨4, ![2, 8320, 2, 64]⟩
abbrev S2x65x128x2x64 : Shape := ⟨5, ![2, 65, 128, 2, 64]⟩
abbrev S2x64x128x2x64 : Shape := ⟨5, ![2, 64, 128, 2, 64]⟩
abbrev S2x64x256x2x64 : Shape := ⟨5, ![2, 64, 256, 2, 64]⟩
abbrev S2x64x2x256x128x4 : Shape := ⟨6, ![2, 64, 2, 256, 128, 4]⟩
abbrev S2x64x2x4x128x256 : Shape := ⟨6, ![2, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S2x64x2x4x128 : Shape := ⟨5, ![2, 64, 2, 4, 128]⟩
abbrev S2x64x2x4x128x1 : Shape := ⟨6, ![2, 64, 2, 4, 128, 1]⟩
abbrev S2x64x2x64x4x128 : Shape := ⟨6, ![2, 64, 2, 64, 4, 128]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S1x1x1024 : Shape := ⟨3, ![1, 1, 1024]⟩
abbrev S16384x1024 : Shape := ⟨2, ![16384, 1024]⟩
abbrev S1024x2048 : Shape := ⟨2, ![1024, 2048]⟩
abbrev S16384x2048 : Shape := ⟨2, ![16384, 2048]⟩
abbrev S16384x8x256 : Shape := ⟨3, ![16384, 8, 256]⟩
abbrev S16384x8x128 : Shape := ⟨3, ![16384, 8, 128]⟩
abbrev S128x128 : Shape := ⟨2, ![128, 128]⟩
abbrev S1024x16384 : Shape := ⟨2, ![1024, 16384]⟩
abbrev S8x128x16384 : Shape := ⟨3, ![8, 128, 16384]⟩

abbrev nBuf : Space → Nat
  | .hbm => 245
  | .vmem => 0
  | .smem => 0
  | _ => 0

abbrev hbmTy0_0 (i : Nat) : BufTy := match i % 128 with
  | 0 => ⟨S2x8192x1024, .f32⟩
  | 1 => ⟨S2x8192, .i32⟩
  | 2 => ⟨S1x1024x2304, .f32⟩
  | 3 => ⟨S1x2304, .f32⟩
  | 4 => ⟨S1x8, .f32⟩
  | 5 => ⟨S1x3x512, .f32⟩
  | 6 => ⟨S1x1024x1024, .f32⟩
  | 7 => ⟨S1x1024, .f32⟩
  | 8 => ⟨S1x1024, .f32⟩
  | 9 => ⟨S1x1024, .f32⟩
  | 10 => ⟨S1x1024x2048, .f32⟩
  | 11 => ⟨S1x128x128, .f32⟩
  | 12 => ⟨S1x128x128, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S2x8192, .f32⟩
  | 28 => ⟨S2x8192x1, .f32⟩
  | 29 => ⟨S1x1x8, .f32⟩
  | 30 => ⟨S2x8192x8, .f32⟩
  | 31 => ⟨S2x8192x8, .f32⟩
  | 32 => ⟨S2x8192x8, .f32⟩
  | 33 => ⟨S2x8192x8, .f32⟩
  | 34 => ⟨S2x8192x1x8, .f32⟩
  | 35 => ⟨S2x8192x8, .f32⟩
  | 36 => ⟨S2x8192x1x8, .f32⟩
  | 37 => ⟨S1024x2304, .f32⟩
  | 38 => ⟨S2304, .f32⟩
  | 39 => ⟨S8, .f32⟩
  | 40 => ⟨S3x512, .f32⟩
  | 41 => ⟨S1024x1024, .f32⟩
  | 42 => ⟨S1024, .f32⟩
  | 43 => ⟨S2x8192x2304, .f32⟩
  | 44 => ⟨S1x1x2304, .f32⟩
  | 45 => ⟨S2x8192x2304, .f32⟩
  | 46 => ⟨S2x8192x2304, .f32⟩
  | 47 => ⟨S2x8192x512, .f32⟩
  | 48 => ⟨S2x8192x8x64, .f32⟩
  | 49 => ⟨S2x8192x128, .f32⟩
  | 50 => ⟨S2x8192x2x64, .f32⟩
  | 51 => ⟨S2x8192x128, .f32⟩
  | 52 => ⟨S2x8192x2x64, .f32⟩
  | 53 => ⟨S2x8192x512, .f32⟩
  | 54 => ⟨S2x8192x512, .f32⟩
  | 55 => ⟨S2x8192x512, .f32⟩
  | 56 => ⟨S2x8192x8x8, .f32⟩
  | 57 => ⟨S2x8192x8x8, .f32⟩
  | 58 => ⟨S2x8192x8x8, .f32⟩
  | 59 => ⟨S2x8192x8x8, .f32⟩
  | 60 => ⟨S2x8192x8x8, .f32⟩
  | 61 => ⟨S2x8192x8x8, .f32⟩
  | 62 => ⟨S2x8192x8x8, .f32⟩
  | 63 => ⟨S2x8192x8x8, .f32⟩
  | 64 => ⟨S2x8192x8x8, .f32⟩
  | 65 => ⟨S2x8192x8x8, .f32⟩
  | 66 => ⟨S2x8192x8x8, .f32⟩
  | 67 => ⟨S2x8192x8x8, .f32⟩
  | 68 => ⟨S2x8192x8x48, .f32⟩
  | 69 => ⟨S2x8192x8x64, .f32⟩
  | 70 => ⟨S2x8192x2x8, .f32⟩
  | 71 => ⟨S2x8192x2x8, .f32⟩
  | 72 => ⟨S2x8192x2x8, .f32⟩
  | 73 => ⟨S2x8192x2x8, .f32⟩
  | 74 => ⟨S2x8192x2x8, .f32⟩
  | 75 => ⟨S2x8192x2x8, .f32⟩
  | 76 => ⟨S2x8192x2x8, .f32⟩
  | 77 => ⟨S2x8192x2x8, .f32⟩
  | 78 => ⟨S2x8192x2x8, .f32⟩
  | 79 => ⟨S2x8192x2x8, .f32⟩
  | 80 => ⟨S2x8192x2x8, .f32⟩
  | 81 => ⟨S2x8192x2x8, .f32⟩
  | 82 => ⟨S2x8192x2x48, .f32⟩
  | 83 => ⟨S2x8192x2x64, .f32⟩
  | 84 => ⟨S2x64x128x2x4x64, .f32⟩
  | 85 => ⟨S_, .i32⟩
  | 86 => ⟨S_, .f32⟩
  | 87 => ⟨S2x8320x2x64, .f32⟩
  | 88 => ⟨S2x65x128x2x64, .f32⟩
  | 89 => ⟨S_, .i32⟩
  | 90 => ⟨S_, .f32⟩
  | 91 => ⟨S2x8320x2x64, .f32⟩
  | 92 => ⟨S2x65x128x2x64, .f32⟩
  | 93 => ⟨S2x64x128x2x64, .f32⟩
  | 94 => ⟨S2x64x128x2x64, .f32⟩
  | 95 => ⟨S2x64x256x2x64, .f32⟩
  | 96 => ⟨S2x64x128x2x64, .f32⟩
  | 97 => ⟨S2x64x128x2x64, .f32⟩
  | 98 => ⟨S2x64x256x2x64, .f32⟩
  | 99 => ⟨S2x64x2x256x128x4, .f32⟩
  | 100 => ⟨S2x64x2x4x128x256, .f32⟩
  | 101 => ⟨S_, .f32⟩
  | 102 => ⟨S2x64x2x4x128x256, .f32⟩
  | 103 => ⟨S2x64x2x4x128x256, .f32⟩
  | 104 => ⟨S128, .i32⟩
  | 105 => ⟨S128x1, .i32⟩
  | 106 => ⟨S256, .i32⟩
  | 107 => ⟨S1x256, .i32⟩
  | 108 => ⟨S_, .i32⟩
  | 109 => ⟨S128x1, .i32⟩
  | 110 => ⟨S128x1, .i32⟩
  | 111 => ⟨S128x256, .i32⟩
  | 112 => ⟨S128x256, .i32⟩
  | 113 => ⟨S128x256, .i32⟩
  | 114 => ⟨S_, .i32⟩
  | 115 => ⟨S128x256, .i32⟩
  | 116 => ⟨S128x256, .i1⟩
  | 117 => ⟨S_, .i32⟩
  | 118 => ⟨S128x256, .i32⟩
  | 119 => ⟨S128x256, .i1⟩
  | 120 => ⟨S128x256, .i1⟩
  | 121 => ⟨S64, .i32⟩
  | 122 => ⟨S64x1x1, .i32⟩
  | 123 => ⟨S_, .i32⟩
  | 124 => ⟨S64x1x1, .i32⟩
  | 125 => ⟨S64x1x1, .i32⟩
  | 126 => ⟨S1x1x256, .i32⟩
  | 127 => ⟨S64x1x256, .i32⟩
  | _ => ⟨S2x8192x1024, .f32⟩

abbrev hbmTy0_1 (i : Nat) : BufTy := match i % 128 with
  | 0 => ⟨S64x1x256, .i32⟩
  | 1 => ⟨S64x1x256, .i32⟩
  | 2 => ⟨S_, .i32⟩
  | 3 => ⟨S64x1x256, .i32⟩
  | 4 => ⟨S64x1x256, .i32⟩
  | 5 => ⟨S1x128x256, .i1⟩
  | 6 => ⟨S_, .i32⟩
  | 7 => ⟨S64x1x256, .i32⟩
  | 8 => ⟨S64x1x256, .i1⟩
  | 9 => ⟨S64x128x256, .i1⟩
  | 10 => ⟨S64x128x256, .i1⟩
  | 11 => ⟨S64x128x256, .i1⟩
  | 12 => ⟨S1x64x1x1x128x256, .i1⟩
  | 13 => ⟨S_, .f32⟩
  | 14 => ⟨S_, .f32⟩
  | 15 => ⟨S2x64x2x4x128x256, .i1⟩
  | 16 => ⟨S2x64x2x4x128x256, .f32⟩
  | 17 => ⟨S2x64x2x4x128x256, .f32⟩
  | 18 => ⟨S2x4, .f32⟩
  | 19 => ⟨S1x1x2x4x1x1, .f32⟩
  | 20 => ⟨S_, .f32⟩
  | 21 => ⟨S2x64x2x4x128, .f32⟩
  | 22 => ⟨S2x64x2x4x128x1, .f32⟩
  | 23 => ⟨S2x64x2x4x128x1, .f32⟩
  | 24 => ⟨S2x64x2x4x128x1, .f32⟩
  | 25 => ⟨S2x64x2x4x128x256, .f32⟩
  | 26 => ⟨S2x64x2x4x128x256, .f32⟩
  | 27 => ⟨S2x64x2x4x128x256, .f32⟩
  | 28 => ⟨S_, .f32⟩
  | 29 => ⟨S2x64x2x4x128, .f32⟩
  | 30 => ⟨S2x64x2x4x128x1, .f32⟩
  | 31 => ⟨S2x64x2x4x128x1, .f32⟩
  | 32 => ⟨S2x64x2x4x128x1, .f32⟩
  | 33 => ⟨S2x64x2x4x128x1, .f32⟩
  | 34 => ⟨S2x64x2x4x128x1, .f32⟩
  | 35 => ⟨S2x64x2x4x128x256, .f32⟩
  | 36 => ⟨S2x64x2x4x128x256, .f32⟩
  | 37 => ⟨S2x64x2x64x4x128, .f32⟩
  | 38 => ⟨S2x64x128x2x4x64, .f32⟩
  | 39 => ⟨S2x8192x512, .f32⟩
  | 40 => ⟨S2x8192x512, .f32⟩
  | 41 => ⟨S_, .i32⟩
  | 42 => ⟨S_, .f32⟩
  | 43 => ⟨S2x8194x512, .f32⟩
  | 44 => ⟨S2x8192x512, .f32⟩
  | 45 => ⟨S1x512, .f32⟩
  | 46 => ⟨S512, .f32⟩
  | 47 => ⟨S1x1x512, .f32⟩
  | 48 => ⟨S2x8192x512, .f32⟩
  | 49 => ⟨S2x8192x512, .f32⟩
  | 50 => ⟨S2x8192x512, .f32⟩
  | 51 => ⟨S1x512, .f32⟩
  | 52 => ⟨S512, .f32⟩
  | 53 => ⟨S1x1x512, .f32⟩
  | 54 => ⟨S2x8192x512, .f32⟩
  | 55 => ⟨S2x8192x512, .f32⟩
  | 56 => ⟨S2x8192x512, .f32⟩
  | 57 => ⟨S2x8192x512, .f32⟩
  | 58 => ⟨S1x512, .f32⟩
  | 59 => ⟨S512, .f32⟩
  | 60 => ⟨S1x1x512, .f32⟩
  | 61 => ⟨S2x8192x512, .f32⟩
  | 62 => ⟨S2x8192x512, .f32⟩
  | 63 => ⟨S2x8192x512, .f32⟩
  | 64 => ⟨S2x8192x512, .f32⟩
  | 65 => ⟨S2x8192x1024, .f32⟩
  | 66 => ⟨S2x8192x1024, .f32⟩
  | 67 => ⟨S1x1x1024, .f32⟩
  | 68 => ⟨S2x8192x1024, .f32⟩
  | 69 => ⟨S2x8192x1024, .f32⟩
  | 70 => ⟨S_, .f32⟩
  | 71 => ⟨S2x8192x1024, .f32⟩
  | 72 => ⟨S2x8192x1024, .f32⟩
  | 73 => ⟨S2x8192x1024, .f32⟩
  | 74 => ⟨S1024, .f32⟩
  | 75 => ⟨S1024, .f32⟩
  | 76 => ⟨S_, .f32⟩
  | 77 => ⟨S2x8192, .f32⟩
  | 78 => ⟨S2x8192x1, .f32⟩
  | 79 => ⟨S_, .f32⟩
  | 80 => ⟨S2x8192x1, .f32⟩
  | 81 => ⟨S2x8192x1, .f32⟩
  | 82 => ⟨S2x8192x1024, .f32⟩
  | 83 => ⟨S2x8192x1024, .f32⟩
  | 84 => ⟨S2x8192x1024, .f32⟩
  | 85 => ⟨S_, .f32⟩
  | 86 => ⟨S2x8192, .f32⟩
  | 87 => ⟨S2x8192x1, .f32⟩
  | 88 => ⟨S_, .f32⟩
  | 89 => ⟨S2x8192x1, .f32⟩
  | 90 => ⟨S2x8192x1, .f32⟩
  | 91 => ⟨S_, .f32⟩
  | 92 => ⟨S2x8192x1, .f32⟩
  | 93 => ⟨S2x8192x1, .f32⟩
  | 94 => ⟨S2x8192x1, .f32⟩
  | 95 => ⟨S2x8192x1024, .f32⟩
  | 96 => ⟨S2x8192x1024, .f32⟩
  | 97 => ⟨S1x1x1024, .f32⟩
  | 98 => ⟨S2x8192x1024, .f32⟩
  | 99 => ⟨S2x8192x1024, .f32⟩
  | 100 => ⟨S1x1x1024, .f32⟩
  | 101 => ⟨S2x8192x1024, .f32⟩
  | 102 => ⟨S2x8192x1024, .f32⟩
  | 103 => ⟨S16384x1024, .f32⟩
  | 104 => ⟨S1024x2048, .f32⟩
  | 105 => ⟨S16384x2048, .f32⟩
  | 106 => ⟨S16384x8x256, .f32⟩
  | 107 => ⟨S16384x8x128, .f32⟩
  | 108 => ⟨S128x128, .f32⟩
  | 109 => ⟨S16384x8x128, .f32⟩
  | 110 => ⟨S16384x8x128, .f32⟩
  | 111 => ⟨S128x128, .f32⟩
  | 112 => ⟨S16384x8x128, .f32⟩
  | 113 => ⟨S1024x16384, .f32⟩
  | 114 => ⟨S1024x16384, .bf16⟩
  | 115 => ⟨S8x128x16384, .f32⟩
  | 116 => ⟨S8x128x16384, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c : Ref sig .tc := ⟨.hbm, 85, rfl⟩
abbrev main_call0_v0 : Ref sig .tc := ⟨.hbm, 86, rfl⟩
abbrev main_v68 : Ref sig .tc := ⟨.hbm, 87, rfl⟩
abbrev main_v69 : Ref sig .tc := ⟨.hbm, 88, rfl⟩
abbrev main_c_3 : Ref sig .tc := ⟨.hbm, 89, rfl⟩
abbrev main_call1_v0 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_4 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_c_5 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_c_6 : Ref sig .tc := ⟨.hbm, 114, rfl⟩
abbrev main_v91 : Ref sig .tc := ⟨.hbm, 115, rfl⟩
abbrev main_v92 : Ref sig .tc := ⟨.hbm, 116, rfl⟩
abbrev main_c_7 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_c_8 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_c_9 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_c_10 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_11 : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_12 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_13 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_c_14 : Ref sig .tc := ⟨.hbm, 169, rfl⟩
abbrev main_call3_v0 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_cst_15 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_cst_16 : Ref sig .tc := ⟨.hbm, 204, rfl⟩
abbrev main_v167 : Ref sig .tc := ⟨.hbm, 205, rfl⟩
abbrev main_v168 : Ref sig .tc := ⟨.hbm, 206, rfl⟩
abbrev main_cst_17 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_cst_18 : Ref sig .tc := ⟨.hbm, 213, rfl⟩
abbrev main_v174 : Ref sig .tc := ⟨.hbm, 214, rfl⟩
abbrev main_v175 : Ref sig .tc := ⟨.hbm, 215, rfl⟩
abbrev main_cst_19 : Ref sig .tc := ⟨.hbm, 216, rfl⟩
abbrev main_v176 : Ref sig .tc := ⟨.hbm, 217, rfl⟩
abbrev main_v177 : Ref sig .tc := ⟨.hbm, 218, rfl⟩
abbrev main_cst_20 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩

abbrev nD : Nat := 1
abbrev τ : Topo := Topo.v7x

variable {F : FTy → Type} [FloatOps F]
-- ==== Select.lean ====
abbrev S8x128x16384 : Shape := ⟨3, ![8, 128, 16384]⟩
abbrev S80x128 : Shape := ⟨2, ![80, 128]⟩
abbrev S16x8x8x16384 : Shape := ⟨4, ![16, 8, 8, 16384]⟩
abbrev S1x128x512 : Shape := ⟨3, ![1, 128, 512]⟩
abbrev S16x1x8x512 : Shape := ⟨4, ![16, 1, 8, 512]⟩
abbrev S16x128 : Shape := ⟨2, ![16, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S8x128 : Shape := ⟨2, ![8, 128]⟩
abbrev S16x8x128 : Shape := ⟨3, ![16, 8, 128]⟩
abbrev S16x1x8x128 : Shape := ⟨4, ![16, 1, 8, 128]⟩

abbrev nBuf : Space → Nat
  | .hbm => 7
  | .vmem => 13
  | .smem => 0
  | _ => 0

abbrev bufTy : (tb : Table) → Fin (tcTables nBuf tb) → BufTy
  | .hbm, ⟨0, _⟩ => ⟨S8x128x16384, .f32⟩
  | .hbm, ⟨1, _⟩ => ⟨S8x128x16384, .f32⟩
  | .hbm, ⟨2, _⟩ => ⟨S80x128, .i32⟩
  | .hbm, ⟨3, _⟩ => ⟨S8x128x16384, .bf16⟩
  | .hbm, ⟨4, _⟩ => ⟨S8x128x16384, .bf16⟩
  | .hbm, ⟨5, _⟩ => ⟨S16x8x8x16384, .f32⟩
  | .hbm, ⟨6, _⟩ => ⟨S16x8x8x16384, .f32⟩
  | .local _ .vmem, ⟨0, _⟩ => ⟨S80x128, .i32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S16x1x8x512, .f32⟩
  | .local _ .vmem, ⟨10, _⟩ => ⟨S16x1x8x512, .f32⟩
  | .local _ .vmem, ⟨11, _⟩ => ⟨S16x1x8x512, .f32⟩
  | .local _ .vmem, ⟨12, _⟩ => ⟨S16x1x8x512, .f32⟩
  | _, _ => ⟨S8x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c128_i32 : BitVec 32 := 128#32
  let v5 : BitVec 32 := Scalar.muli arg9 c128_i32
  v5
def k0_off1 (k0_t1 : Fin k0_t1_loop.trips) : Fin 3 → Nat :=
  let c0_3 : Index := 0#32
  let c0_4 : Index := 0#32
  let c0_i32_1 : BitVec 32 := 0#32
  let c1_i32 : BitVec 32 := 1#32
  let arg9 : BitVec 32 := Scf.iv c0_i32_1 c1_i32 k0_t1
  let c128_i32 : BitVec 32 := 128#32
  let v5 : BitVec 32 := Scalar.muli arg9 c128_i32
  let v6 : BitVec 32 := v5
  let v7 : Index := Scalar.indexCast v6
  ![0, 0, v7.toNat]
def k0_off2 (k0_t1 : Fin k0_t1_loop.trips) : Fin 4 → Nat :=
  let c0_293 : Index := 0#32
  let c0_294 : Index := 0#32
  let c0_295 : Index := 0#32
  let c0_i32_1 : BitVec 32 := 0#32
  let c1_i32 : BitVec 32 := 1#32
  let arg9 : BitVec 32 := Scf.iv c0_i32_1 c1_i32 k0_t1
  let c128_i32 : BitVec 32 := 128#32
  let v5 : BitVec 32 := Scalar.muli arg9 c128_i32
  let v6 : BitVec 32 := v5
  let v1015 : Index := Scalar.indexCast v6
  ![0, 0, 0, v1015.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

abbrev stage0_0 : Fin 1 → Memref sig .tc .vmem S80x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== WeightsIdeal.lean ====
abbrev S8x128x16384 : Shape := ⟨3, ![8, 128, 16384]⟩
abbrev S_ : Shape := ⟨0, ![]⟩
abbrev S8x16384 : Shape := ⟨2, ![8, 16384]⟩
abbrev S8x1x16384 : Shape := ⟨3, ![8, 1, 16384]⟩
abbrev S8x16x8x16384 : Shape := ⟨4, ![8, 16, 8, 16384]⟩
abbrev S16x8x8x16384 : Shape := ⟨4, ![16, 8, 8, 16384]⟩

abbrev nBuf : Space → Nat
  | .hbm => 10
  | .vmem => 0
  | .smem => 0
  | _ => 0

abbrev bufTy : (tb : Table) → Fin (tcTables nBuf tb) → BufTy
  | .hbm, ⟨0, _⟩ => ⟨S8x128x16384, .f32⟩
  | .hbm, ⟨1, _⟩ => ⟨S8x128x16384, .f32⟩
  | .hbm, ⟨2, _⟩ => ⟨S_, .f32⟩
  | .hbm, ⟨3, _⟩ => ⟨S8x16384, .f32⟩
  | .hbm, ⟨4, _⟩ => ⟨S8x1x16384, .f32⟩
  | .hbm, ⟨5, _⟩ => ⟨S8x128x16384, .f32⟩
  | .hbm, ⟨6, _⟩ => ⟨S8x128x16384, .f32⟩
  | .hbm, ⟨7, _⟩ => ⟨S8x128x16384, .f32⟩
  | .hbm, ⟨8, _⟩ => ⟨S8x16x8x16384, .f32⟩
  | .hbm, ⟨9, _⟩ => ⟨S16x8x8x16384, .f32⟩
  | _, _ => ⟨S8x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ranks.lean ====
abbrev S8x128x16384 : Shape := ⟨3, ![8, 128, 16384]⟩
abbrev S80x128 : Shape := ⟨2, ![80, 128]⟩
abbrev S16x8x8x16384 : Shape := ⟨4, ![16, 8, 8, 16384]⟩
abbrev S1x128x512 : Shape := ⟨3, ![1, 128, 512]⟩
abbrev S16x1x8x512 : Shape := ⟨4, ![16, 1, 8, 512]⟩
abbrev S16x128 : Shape := ⟨2, ![16, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S8x128 : Shape := ⟨2, ![8, 128]⟩
abbrev S16x8x128 : Shape := ⟨3, ![16, 8, 128]⟩
abbrev S16x1x8x128 : Shape := ⟨4, ![16, 1, 8, 128]⟩

abbrev nBuf : Space → Nat
  | .hbm => 7
  | .vmem => 13
  | .smem => 0
  | _ => 0

abbrev bufTy : (tb : Table) → Fin (tcTables nBuf tb) → BufTy
  | .hbm, ⟨0, _⟩ => ⟨S8x128x16384, .f32⟩
  | .hbm, ⟨1, _⟩ => ⟨S8x128x16384, .f32⟩
  | .hbm, ⟨2, _⟩ => ⟨S80x128, .i32⟩
  | .hbm, ⟨3, _⟩ => ⟨S8x128x16384, .bf16⟩
  | .hbm, ⟨4, _⟩ => ⟨S8x128x16384, .bf16⟩
  | .hbm, ⟨5, _⟩ => ⟨S16x8x8x16384, .f32⟩
  | .hbm, ⟨6, _⟩ => ⟨S16x8x8x16384, .f32⟩
  | .local _ .vmem, ⟨0, _⟩ => ⟨S80x128, .i32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S16x1x8x512, .f32⟩
  | .local _ .vmem, ⟨10, _⟩ => ⟨S16x1x8x512, .f32⟩
  | .local _ .vmem, ⟨11, _⟩ => ⟨S16x1x8x512, .f32⟩
  | .local _ .vmem, ⟨12, _⟩ => ⟨S16x1x8x512, .f32⟩
  | _, _ => ⟨S8x128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 8], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg9 : BitVec 32 := Scf.iv c0_i32_1 c1_i32 k0_t1
  let c128_i32 : BitVec 32 := 128#32
  let v5 : BitVec 32 := Scalar.muli arg9 c128_i32
  v5
def k0_off1 (k0_t1 : Fin k0_t1_loop.trips) : Fin 3 → Nat :=
  let c0_3 : Index := 0#32
  let c0_4 : Index := 0#32
  let c0_i32_1 : BitVec 32 := 0#32
  let c1_i32 : BitVec 32 := 1#32
  let arg9 : BitVec 32 := Scf.iv c0_i32_1 c1_i32 k0_t1
  let c128_i32 : BitVec 32 := 128#32
  let v5 : BitVec 32 := Scalar.muli arg9 c128_i32
  let v6 : BitVec 32 := v5
  let v7 : Index := Scalar.indexCast v6
  ![0, 0, v7.toNat]
def k0_off2 (k0_t1 : Fin k0_t1_loop.trips) : Fin 4 → Nat :=
  let c0_293 : Index := 0#32
  let c0_294 : Index := 0#32
  let c0_295 : Index := 0#32
  let c0_i32_1 : BitVec 32 := 0#32
  let c1_i32 : BitVec 32 := 1#32
  let arg9 : BitVec 32 := Scf.iv c0_i32_1 c1_i32 k0_t1
  let c128_i32 : BitVec 32 := 128#32
  let v5 : BitVec 32 := Scalar.muli arg9 c128_i32
  let v6 : BitVec 32 := v5
  let v1015 : Index := Scalar.indexCast v6
  ![0, 0, 0, v1015.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat, arg0.toNat]

abbrev stage0_0 : Fin 1 → Memref sig .tc .vmem S80x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1x8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OrderIdeal.lean ====
abbrev S8x128x16384 : Shape := ⟨3, ![8, 128, 16384]⟩
abbrev S128 : Shape := ⟨1, ![128]⟩
abbrev S8x128x1x16384 : Shape := ⟨4, ![8, 128, 1, 16384]⟩
abbrev S8x1x128x16384 : Shape := ⟨4, ![8, 1, 128, 16384]⟩
abbrev S1x128 : Shape := ⟨2, ![1, 128]⟩
abbrev S128x1 : Shape := ⟨2, ![128, 1]⟩
abbrev S128x128 : Shape := ⟨2, ![128, 128]⟩
abbrev S1x128x128x1 : Shape := ⟨4, ![1, 128, 128, 1]⟩
abbrev S8x128x128x16384 : Shape := ⟨4, ![8, 128, 128, 16384]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8x128x16384, .f32⟩
  | .hbm, ⟨1, _⟩ => ⟨S8x128x16384, .f32⟩
  | .hbm, ⟨2, _⟩ => ⟨S128, .i32⟩
  | .hbm, ⟨3, _⟩ => ⟨S8x128x1x16384, .f32⟩
  | .hbm, ⟨4, _⟩ => ⟨S8x1x128x16384, .f32⟩
  | .hbm, ⟨5, _⟩ => ⟨S1x128, .i32⟩
  | .hbm, ⟨6, _⟩ => ⟨S128x1, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S1x128x128x1, .i1⟩
  | .hbm, ⟨11, _⟩ => ⟨S8x128x128x16384, .f32⟩
  | .hbm, ⟨12, _⟩ => ⟨S8x128x128x16384, .f32⟩
  | .hbm, ⟨13, _⟩ => ⟨S8x128x128x16384, .i1⟩
  | .hbm, ⟨14, _⟩ => ⟨S8x128x128x16384, .f32⟩
  | .hbm, ⟨15, _⟩ => ⟨S8x128x128x16384, .f32⟩
  | .hbm, ⟨16, _⟩ => ⟨S8x128x128x16384, .i1⟩
  | .hbm, ⟨17, _⟩ => ⟨S8x128x128x16384, .i1⟩
  | .hbm, ⟨18, _⟩ => ⟨S8x128x128x16384, .i1⟩
  | .hbm, ⟨19, _⟩ => ⟨S8x128x128x16384, .i1⟩
  | .hbm, ⟨20, _⟩ => ⟨S8x128x128x16384, .f32⟩
  | .hbm, ⟨21, _⟩ => ⟨S_, .f32⟩
  | .hbm, ⟨22, _⟩ => ⟨S8x128x16384, .f32⟩
  | .hbm, ⟨23, _⟩ => ⟨S_, .f32⟩
  | .hbm, ⟨24, _⟩ => ⟨S8x128x16384, .f32⟩
  | .hbm, ⟨25, _⟩ => ⟨S8x128x16384, .f32⟩
  | .hbm, ⟨26, _⟩ => ⟨S8x128x16384, .bf16⟩
  | _, _ => ⟨S8x128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Proof.Spec.lean ====
/-
  The front half of the decoder layer, written once over the extended reals: the combined projection, the partial
  rotary embedding, sliding-window attention with one sink per head, the gated short convolution, the output
  projection, the first layer norm, and the sub-key scores of the product-key memory.

  Both programs are read down to these functions. Indices are natural numbers: `n` is a token, counted through both
  sequences (`n = 8192 * sequence + position`); `c`, `d`, `e` are channels.
-/
module

public import Idealize.ShloMosaic.Lib.Pointwise

@[expose] public section

noncomputable section

namespace Cert.Front

open Idealize.ShloMosaic

/-- A matrix read at natural indices, zero outside. -/
def rd2 {A B : ℕ} (f : (⟨2, ![A, B]⟩ : Shape).Idx → EReal) (i j : ℕ) : EReal :=
  if h : i < A ∧ j < B then f (ix2 ⟨i, h.1⟩ ⟨j, h.2⟩) else 0

/-- A rank-3 array read at natural indices, zero outside. -/
def rd3 {A B C : ℕ} (f : (⟨3, ![A, B, C]⟩ : Shape).Idx → EReal) (i j k : ℕ) : EReal :=
  if h : i < A ∧ j < B ∧ k < C then f (ix3 ⟨i, h.1⟩ ⟨j, h.2.1⟩ ⟨k, h.2.2⟩) else 0

/-- Inside a matrix, reading at natural indices is reading. -/
theorem rd2_eq {A B : ℕ} (f : (⟨2, ![A, B]⟩ : Shape).Idx → EReal) (i : Fin A) (j : Fin B) :
    f (ix2 i j) = rd2 f i j := by
  unfold rd2; rw [dif_pos ⟨i.2, j.2⟩]

/-- Inside a rank-3 array, reading at natural indices is reading. -/
theorem rd3_eq {A B C : ℕ} (f : (⟨3, ![A, B, C]⟩ : Shape).Idx → EReal) (i : Fin A) (j : Fin B) (k : Fin C) :
    f (ix3 i j k) = rd3 f i j k := by
  unfold rd3; rw [dif_pos ⟨i.2, j.2, k.2⟩]

/-- A vector of 32-bit words read at natural indices. -/
def rdw {A B : ℕ} (f : (⟨2, ![A, B]⟩ : Shape).Idx → BitVec 32) (i j : ℕ) : BitVec 32 :=
  if h : i < A ∧ j < B then f (ix2 ⟨i, h.1⟩ ⟨j, h.2⟩) else 0

/-- Inside a matrix of words, reading at natural indices is reading. -/
theorem rdw_eq {A B : ℕ} (f : (⟨2, ![A, B]⟩ : Shape).Idx → BitVec 32) (i : Fin A) (j : Fin B) :
    f (ix2 i j) = rdw f i j := by
  unfold rdw; rw [dif_pos ⟨i.2, j.2⟩]

/-- The rotary angle of position `p` at frequency `j`: `p * theta ^ (-2 j / 16)`, as both programs compute it. -/
@[irreducible] def ang (p : BitVec 32) (j : ℕ) : EReal :=
  FloatOps.sitofp (F := Ideal) FTy.f32 p *
    Ideal.pow (Ideal.ofBits FTy.f32 0x48F42400#32)
      (Ideal.div (-(Ideal.ofBits FTy.f32 0x40000000#32 * FloatOps.sitofp (F := Ideal) FTy.f32 (BitVec.ofNat 32 j)))
        (Ideal.ofBits FTy.f32 0x41800000#32))

/-- What the layer's front half reads: the tokens `X`, the rotary cosines and sines `cs`, `sn`, and the weights. -/
structure In where
  X : ℕ → ℕ → EReal
  cs : ℕ → ℕ → EReal
  sn : ℕ → ℕ → EReal
  W : ℕ → ℕ → EReal
  Bi : ℕ → EReal
  Sk : ℕ → EReal
  CW : ℕ → ℕ → EReal
  WO : ℕ → ℕ → EReal
  BO : ℕ → EReal
  G : ℕ → EReal
  Be : ℕ → EReal
  WP : ℕ → ℕ → EReal
  K1 : ℕ → ℕ → EReal
  K2 : ℕ → ℕ → EReal

/-- The layer's front half read off its argument arrays. -/
def argsIn (x : (⟨3, ![2, 8192, 1024]⟩ : Shape).Idx → EReal) (pos : (⟨2, ![2, 8192]⟩ : Shape).Idx → BitVec 32)
    (w : (⟨3, ![1, 1024, 2304]⟩ : Shape).Idx → EReal) (bi : (⟨2, ![1, 2304]⟩ : Shape).Idx → EReal)
    (sk : (⟨2, ![1, 8]⟩ : Shape).Idx → EReal) (cw : (⟨3, ![1, 3, 512]⟩ : Shape).Idx → EReal)
    (wo : (⟨3, ![1, 1024, 1024]⟩ : Shape).Idx → EReal) (bo g be : (⟨2, ![1, 1024]⟩ : Shape).Idx → EReal)
    (wp : (⟨3, ![1, 1024, 2048]⟩ : Shape).Idx → EReal) (k1 k2 : (⟨3, ![1, 128, 128]⟩ : Shape).Idx → EReal) : In where
  X n k := rd3 x (n / 8192) (n % 8192) k
  cs n j := Ideal.cos (ang (rdw pos (n / 8192) (n % 8192)) j)
  sn n j := Ideal.sin (ang (rdw pos (n / 8192) (n % 8192)) j)
  W k c := rd3 w 0 k c
  Bi c := rd2 bi 0 c
  Sk h := rd2 sk 0 h
  CW j c := rd3 cw 0 j c
  WO k c := rd3 wo 0 k c
  BO c := rd2 bo 0 c
  G c := rd2 g 0 c
  Be c := rd2 be 0 c
  WP k e := rd3 wp 0 k e
  K1 i d := rd3 k1 0 i d
  K2 i d := rd3 k2 0 i d

variable (a : In)

/-- The combined projection. -/
@[irreducible] def proj (n c : ℕ) : EReal := (∑ k : Fin 1024, a.X n k * a.W k c) + a.Bi c

/-- The partial rotary embedding of the 64 channels that start at `base`: the first sixteen turn in pairs
    `(d, d + 8)`, the others pass. -/
@[irreducible] def rope (n base d : ℕ) : EReal :=
  if d < 8 then proj a n (base + d) * a.cs n d - proj a n (base + (d + 8)) * a.sn n d
  else if d < 16 then proj a n (base + d) * a.cs n (d - 8) + proj a n (base + (d - 8)) * a.sn n (d - 8)
  else proj a n (base + d)

/-- The key that token `n` sees in slot `j` of its window: slots 0–127 are the block before the token's own, slots
    128–255 its own block; before the first block of a sequence there are zeros. -/
@[irreducible] def kc (n g j d : ℕ) : EReal :=
  if n % 8192 < 128 ∧ j < 128 then 0 else rope a (n - n % 128 + j - 128) (512 + 64 * g) d

/-- The value in slot `j` of the window of token `n`. -/
@[irreducible] def vc (n g j d : ℕ) : EReal :=
  if n % 8192 < 128 ∧ j < 128 then 0 else proj a (n - n % 128 + j - 128) (640 + (64 * g + d))

/-- Slot `j` is visible to token `n`: at most 127 tokens back, not ahead, and not before the sequence. -/
def vis (n j : ℕ) : Prop := j ≤ n % 128 + 128 ∧ n % 128 < j ∧ (128 ≤ n % 8192 ∨ 128 ≤ j)

instance (n j : ℕ) : Decidable (vis n j) := by unfold vis; infer_instance

/-- The scale of the scores, as both programs write it. -/
@[irreducible] def scale : EReal := Ideal.ofBits .f32 0x3E000000#32

/-- The masked score of slot `j` for head `h` (key head `h / 4`). -/
@[irreducible] def score (n h j : ℕ) : EReal :=
  if vis n j then (∑ d : Fin 64, kc a n (h / 4) j d * rope a n (64 * h) d) * scale
  else Ideal.ofBits .f32 0xFF800000#32

/-- The largest of a row's scores and of the head's sink. -/
@[irreducible] def mx (n h : ℕ) : EReal :=
  max (Finset.univ.fold max (Ideal.ofBits .f32 0xFF800000#32) fun j : Fin 256 => score a n h j) (a.Sk h)

/-- The exponential weight of slot `j`. -/
@[irreducible] def pe (n h j : ℕ) : EReal := Ideal.exp (score a n h j - mx a n h)

/-- The weights' sum, the sink's own included. -/
@[irreducible] def den (n h : ℕ) : EReal := (∑ j : Fin 256, pe a n h j) + Ideal.exp (a.Sk h - mx a n h)

/-- The attention output. -/
@[irreducible] def att (n h d : ℕ) : EReal := ∑ j : Fin 256, vc a n (h / 4) j d * Ideal.div (pe a n h j) (den a n h)

/-- The gated input of the convolution. -/
@[irreducible] def uu (n c : ℕ) : EReal := proj a n (1280 + c) * proj a n (1792 + c)

/-- The convolution's input `s` tokens back, zero before the sequence. -/
@[irreducible] def ub (n s c : ℕ) : EReal := if n % 8192 < s then 0 else uu a (n - s) c

/-- The gated causal convolution of length three. -/
@[irreducible] def cv (n c : ℕ) : EReal :=
  proj a n (768 + c) * (ub a n 2 c * a.CW 0 c + ub a n 1 c * a.CW 1 c + ub a n 0 c * a.CW 2 c)

/-- The mixer's 1024 channels: attention, then convolution. -/
@[irreducible] def yy (n c : ℕ) : EReal := if c < 512 then att a n (c / 64) (c % 64) else cv a n (c - 512)

/-- The residual sum. -/
@[irreducible] def zz (n c : ℕ) : EReal :=
  Ideal.ofBits .f32 0x3F9837F0#32 * a.X n c + ((∑ k : Fin 1024, yy a n k * a.WO k c) + a.BO c)

/-- The residual sum less its mean. -/
@[irreducible] def xc (n c : ℕ) : EReal := zz a n c - Ideal.div (∑ k : Fin 1024, zz a n k) (Ideal.ofBits .f32 0x44800000#32)

/-- The layer norm of the residual sum. -/
@[irreducible] def hh (n c : ℕ) : EReal :=
  xc a n c * Ideal.rsqrt (Ideal.div (∑ k : Fin 1024, xc a n k * xc a n k) (Ideal.ofBits .f32 0x44800000#32)
    + Ideal.ofBits .f32 0x3727C5AC#32) * a.G c + a.Be c

/-- The query projection of the product-key memory. -/
@[irreducible] def qp (n e : ℕ) : EReal := ∑ k : Fin 1024, hh a n k * a.WP k e

/-- The scores of the first and of the second sub-key table. -/
@[irreducible] def sc1 (h i n : ℕ) : EReal := ∑ d : Fin 128, qp a n (256 * h + d) * a.K1 i d

@[inherit_doc sc1, irreducible]
def sc2 (h i n : ℕ) : EReal := ∑ d : Fin 128, qp a n (256 * h + (128 + d)) * a.K2 i d

end Cert.Front

end
-- ==== Proof.RefValue.lean ====
/-
  The reference program, read at an index: each of its named intermediate arrays is the function of Spec.lean.
  The token at `(b, s)` is number `8192 * b + s`.
-/
module

public import proofs.«01_k».proof.Proof.Spec
public import proofs.«01_k».proof.Proof.Gen.ReferenceIdeal.Run
public import Idealize.ShloMosaic.Lib.Pointwise
public import Idealize.ShloMosaic.Lib.Tactic.CleanTypes
public import Idealize.ShloMosaic.Lib.KernelVsHost

@[expose] public section
set_option maxRecDepth 16384
noncomputable section
namespace Cert.Front.Ref
open Cert.ReferenceIdeal Cert.ReferenceIdeal.Gen Cert.ReferenceIdeal.Value Idealize.ShloMosaic Idealize.ShloMosaic.TcCoe Idealize.SL.Sem Idealize.ShloMosaic.StableHlo

variable (V0 : Valuation τ sig (Elt Ideal))

/-- What the reference reads. -/
def inp : In := argsIn (V0 (Proc.devRef .tc main_arg0)) (V0 (Proc.devRef .tc main_arg1)) (V0 (Proc.devRef .tc main_arg2))
  (V0 (Proc.devRef .tc main_arg3)) (V0 (Proc.devRef .tc main_arg4)) (V0 (Proc.devRef .tc main_arg5))
  (V0 (Proc.devRef .tc main_arg6)) (V0 (Proc.devRef .tc main_arg7)) (V0 (Proc.devRef .tc main_arg8))
  (V0 (Proc.devRef .tc main_arg9)) (V0 (Proc.devRef .tc main_arg10)) (V0 (Proc.devRef .tc main_arg11))
  (V0 (Proc.devRef .tc main_arg12))

/-- A token's sequence. -/
theorem tok_div (b : Fin 2) (s : Fin 8192) : (8192 * b.val + s.val) / 8192 = b.val := by omega
/-- A token's position. -/
theorem tok_mod (b : Fin 2) (s : Fin 8192) : (8192 * b.val + s.val) % 8192 = s.val := by omega

/-- The angles. -/
theorem v15 (b : Fin 2) (s : Fin 8192) (j : Fin 8) :
    res_main_v15 V0 (ix3 b s j) = ang (rdw (V0 (Proc.devRef .tc main_arg1)) b s) j := by
  rw [← rdw_eq]
  unfold res_main_v15
  clean_types
  pointwise
  unfold ang
  rfl

/-- The cosines. -/
theorem v17 (b : Fin 2) (s : Fin 8192) (u : Fin 1) (j : Fin 8) :
    res_main_v17 V0 (ix4 b s u j) = (inp V0).cs (8192 * b + s) j := by
  unfold res_main_v17
  clean_types
  pointwise
  rw [v15]
  simp only [inp, argsIn, tok_div, tok_mod]

/-- The sines. -/
theorem v19 (b : Fin 2) (s : Fin 8192) (u : Fin 1) (j : Fin 8) :
    res_main_v19 V0 (ix4 b s u j) = (inp V0).sn (8192 * b + s) j := by
  unfold res_main_v19
  clean_types
  pointwise
  rw [v15]
  simp only [inp, argsIn, tok_div, tok_mod]

/-- The combined projection. -/
theorem v29 (b : Fin 2) (s : Fin 8192) (c : Fin 2304) :
    res_main_v29 V0 (ix3 b s c) = proj (inp V0) (8192 * b + s) c := by
  unfold res_main_v29 proj
  clean_types
  pointwise
  simp only [inp, argsIn, tok_div, tok_mod, rd3_eq, rd2_eq]
  rfl

/-- The queries before the rotation. -/
theorem v31 (b : Fin 2) (s : Fin 8192) (h : Fin 8) (d : Fin 64) :
    res_main_v31 V0 (ix4 b s h d) = proj (inp V0) (8192 * b + s) (64 * h + d) := by
  unfold res_main_v31
  clean_types
  pointwise
  rw [v29]
  congr 1
  simp only
  omega

/-- The keys before the rotation. -/
theorem v33 (b : Fin 2) (s : Fin 8192) (h : Fin 2) (d : Fin 64) :
    res_main_v33 V0 (ix4 b s h d) = proj (inp V0) (8192 * b + s) (512 + 64 * h + d) := by
  unfold res_main_v33
  clean_types
  pointwise
  rw [v29]
  congr 1
  simp only
  omega

/-- The queries' first eight channels. -/
theorem v39 (b : Fin 2) (s : Fin 8192) (h : Fin 8) (d : Fin 8) :
    res_main_v39 V0 (ix4 b s h d) = proj (inp V0) (8192 * b + s) (64 * h + d) := by
  unfold res_main_v39
  clean_types
  pointwise
  rw [v31]

/-- The queries' second eight channels. -/
theorem v40 (b : Fin 2) (s : Fin 8192) (h : Fin 8) (d : Fin 8) :
    res_main_v40 V0 (ix4 b s h d) = proj (inp V0) (8192 * b + s) (64 * h + (d + 8)) := by
  unfold res_main_v40
  clean_types
  pointwise
  rw [v31]
  congr 1
  simp only
  omega

/-- The keys' first eight channels. -/
theorem v53 (b : Fin 2) (s : Fin 8192) (h : Fin 2) (d : Fin 8) :
    res_main_v53 V0 (ix4 b s h d) = proj (inp V0) (8192 * b + s) (512 + 64 * h + d) := by
  unfold res_main_v53
  clean_types
  pointwise
  rw [v33]

/-- The keys' second eight channels. -/
theorem v54 (b : Fin 2) (s : Fin 8192) (h : Fin 2) (d : Fin 8) :
    res_main_v54 V0 (ix4 b s h d) = proj (inp V0) (8192 * b + s) (512 + 64 * h + (d + 8)) := by
  unfold res_main_v54
  clean_types
  pointwise
  rw [v33]
  congr 1
  simp only
  omega

/-- The padded keys in blocks: block 0 is the padding. -/
theorem v69 (b : Fin 2) (s : Fin 65) (u : Fin 128) (g : Fin 2) (d : Fin 64) :
    res_main_v69 V0 (ix5 b s u g d)
      = (if s.val = 0 then 0 else rope (inp V0) (8192 * b + (s * 128 + u - 128)) (512 + 64 * g) d : EReal) := by
  unfold res_main_v69
  clean_types
  pointwise
  by_cases hs : s.val = 0
  · rw [dif_neg (by omega)]
    simp only [hs, ↓reduceIte]
    exact sitofp_zero (φ := .f32)
  · rw [dif_pos (by omega)]
    simp only [hs, ↓reduceIte]
    unfold rope
    simp only [v53, v54, v17, v19, v33]
    have e1 : ((d : ℕ) - 8 < 8) = ((d : ℕ) < 16) := by
      apply propext; omega
    by_cases h8 : (d : ℕ) < 8
    · simp only [h8, ↓reduceDIte, ↓reduceIte]
    · by_cases h16 : (d : ℕ) < 16
      · simp only [h8, e1, h16, ↓reduceDIte, ↓reduceIte]
        congr 3; omega
      · simp only [h8, e1, h16, ↓reduceDIte, ↓reduceIte]
        congr 1; omega

/-- The values, with a block of zeros before each sequence. -/
theorem v71 (b : Fin 2) (s : Fin 65) (u : Fin 128) (g : Fin 2) (d : Fin 64) :
    res_main_v71 V0 (ix5 b s u g d)
      = (if s.val = 0 then 0 else proj (inp V0) (8192 * b + (s * 128 + u - 128)) (640 + (64 * g + d)) : EReal) := by
  unfold res_main_v71
  clean_types
  pointwise
  by_cases hs : s.val = 0
  · rw [dif_neg (by omega)]
    simp only [hs, ↓reduceIte]
    exact sitofp_zero (φ := .f32)
  · rw [dif_pos (by omega)]
    simp only [hs, ↓reduceIte]
    rw [v29]
    congr 1
    simp only
    omega

end Cert.Front.Ref
-- ==== Proof.RefAttn.lean ====
/-
  The reference's attention, read at an index: masked scores, their running quantities, and the gated convolution's
  input, as the functions of Spec.lean.
-/
module

public import proofs.«01_k».proof.Proof.RefValue
public import Idealize.ShloMosaic.Lib.WordCmp
public import Idealize.ShloMosaic.Lib.Tactic.WordOmega

@[expose] public section
set_option maxRecDepth 16384
noncomputable section
namespace Cert.Front.Ref
open Cert.ReferenceIdeal Cert.ReferenceIdeal.Gen Cert.ReferenceIdeal.Value Idealize.ShloMosaic Idealize.ShloMosaic.TcCoe Idealize.SL.Sem Idealize.ShloMosaic.StableHlo

section LastAxis
variable {n0 n1 n2 n3 n4 n5 : Nat}

/-- Reducing the last of six axes: the indices that drop to `(b, s, g, e, u)` are those with one more coordinate. -/
theorem drop_last (h : (⟨6, ![n0, n1, n2, n3, n4, n5]⟩ : Shape).ReducesTo [5] ⟨5, ![n0, n1, n2, n3, n4]⟩)
    (b : Fin n0) (s : Fin n1) (g : Fin n2) (e : Fin n3) (u : Fin n4) (i : (⟨6, ![n0, n1, n2, n3, n4, n5]⟩ : Shape).Idx) :
    h.drop i = ix5 b s g e u ↔ ∃ k : Fin n5, ix6 b s g e u k = i := by
  constructor
  · intro q
    refine ⟨i 5, ?_⟩
    funext x; apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- A sum over the last of six axes, at an index. -/
theorem sum_fiber_last (h : (⟨6, ![n0, n1, n2, n3, n4, n5]⟩ : Shape).ReducesTo [5] ⟨5, ![n0, n1, n2, n3, n4]⟩)
    (b : Fin n0) (s : Fin n1) (g : Fin n2) (e : Fin n3) (u : Fin n4)
    (v : (⟨6, ![n0, n1, n2, n3, n4, n5]⟩ : Shape).Idx → EReal) (z : EReal) :
    Ideal.hostReduceAdd h v z (ix5 b s g e u) = z + ∑ k : Fin n5, v (ix6 b s g e u k) :=
  congrArg (z + ·) (Finset.sum_filter_eq_sum_of_fiber _ (fun k : Fin n5 => ix6 b s g e u k)
    (fun _ _ q => congrFun q 5) (drop_last h b s g e u) v)

/-- A maximum over the last of six axes, at an index. -/
theorem max_fiber_last (h : (⟨6, ![n0, n1, n2, n3, n4, n5]⟩ : Shape).ReducesTo [5] ⟨5, ![n0, n1, n2, n3, n4]⟩)
    (b : Fin n0) (s : Fin n1) (g : Fin n2) (e : Fin n3) (u : Fin n4)
    (v : (⟨6, ![n0, n1, n2, n3, n4, n5]⟩ : Shape).Idx → EReal) (z : EReal) :
    (Finset.univ.filter (fun i => h.drop i = ix5 b s g e u)).fold max z v
      = Finset.univ.fold max z fun k : Fin n5 => v (ix6 b s g e u k) :=
  Finset.fold_filter_eq_fold_of_fiber max _ (fun k : Fin n5 => ix6 b s g e u k)
    (fun _ _ q => congrFun q 5) (drop_last h b s g e u) z v

/-- The host's sum along the last of six axes. -/
theorem sum_last (h : (⟨6, ![n0, n1, n2, n3, n4, n5]⟩ : Shape).ReducesTo [5] ⟨5, ![n0, n1, n2, n3, n4]⟩)
    {u : Shape} (v : FVec Ideal ⟨6, ![n0, n1, n2, n3, n4, n5]⟩ .f32) (z : FVec Ideal u .f32) (hu : 0 < u.numel) :
    Host.reduceAdd v z h hu
      = fun j => z (Shape.Idx.first hu) + ∑ k : Fin n5, v (ix6 (j 0) (j 1) (j 2) (j 3) (j 4) k) := by
  funext j
  rw [ValueIdx.hostReduceAdd_apply, ValueIdx.eq_ix5 j]
  exact sum_fiber_last h _ _ _ _ _ v _

/-- The host's maximum along the last of six axes. -/
theorem max_last (h : (⟨6, ![n0, n1, n2, n3, n4, n5]⟩ : Shape).ReducesTo [5] ⟨5, ![n0, n1, n2, n3, n4]⟩)
    {u : Shape} (v : FVec Ideal ⟨6, ![n0, n1, n2, n3, n4, n5]⟩ .f32) (z : FVec Ideal u .f32) (hu : 0 < u.numel) :
    Host.reduce FloatOps.maximumf v z h hu
      = fun j => Finset.univ.fold (max : EReal → EReal → EReal) (z (Shape.Idx.first hu))
          fun k : Fin n5 => v (ix6 (j 0) (j 1) (j 2) (j 3) (j 4) k) := by
  funext j
  rw [ValueIdx.eq_ix5 j]
  exact (Host.reduce_eq_fold (FloatOps.maximumf (F := Ideal) (φ := .f32)) v z h hu _).trans
    (max_fiber_last h _ _ _ _ _ v _)

end LastAxis

/-- The rotary embedding with the second half's channel written from the half's start. -/
theorem rope_ladder (a : In) (n base d : ℕ) :
    (if d < 8 then proj a n (base + d) * a.cs n d - proj a n (base + (d + 8)) * a.sn n d
      else if d - 8 < 8 then proj a n (base + (d - 8 + 8)) * a.cs n (d - 8) + proj a n (base + (d - 8)) * a.sn n (d - 8)
      else proj a n (base + (16 + (d - 8 - 8)))) = rope a n base d := by
  unfold rope
  by_cases h8 : d < 8
  · simp only [h8, ↓reduceIte]
  · have e1 : d - 8 + 8 = d := by omega
    by_cases h16 : d < 16
    · have h : d - 8 < 8 := by omega
      simp only [h8, h16, h, e1, ↓reduceIte]
    · have h : ¬ d - 8 < 8 := by omega
      have e2 : 16 + (d - 8 - 8) = d := by omega
      simp only [h8, h16, h, e2, ↓reduceIte]

variable (V0 : Valuation τ sig (Elt Ideal))

/-- The key slots, counted. -/
theorem v85 (u : Fin 1) (d : Fin 256) : res_main_v85 V0 (ix2 u d) = BitVec.ofNat 32 d.val := by
  unfold res_main_v85
  clean_types
  pointwise

/-- A query position less a key slot, in words. -/
theorem v90 (u : Fin 128) (d : Fin 256) : res_main_v90 V0 (ix2 u d)
    = IntOp.subi (IntOp.addi (BitVec.ofNat 32 u.val) 128#32) (BitVec.ofNat 32 d.val) := by
  unfold res_main_v90
  clean_types
  pointwise
  rw [v85]

/-- The reference's mask picks the visible slots. -/
theorem mask_vis (b : Fin 2) (s : Fin 64) (u : Fin 128) (d : Fin 256) (x y : EReal) :
    Scalar.select (IntOp.andi
        (IntOp.andi (IntOp.cmpi CmpIPredicate.sge (IntOp.subi (IntOp.addi (BitVec.ofNat 32 u.val) 128#32) (BitVec.ofNat 32 d.val)) 0#32)
          (IntOp.cmpi CmpIPredicate.slt (IntOp.subi (IntOp.addi (BitVec.ofNat 32 u.val) 128#32) (BitVec.ofNat 32 d.val)) 128#32))
        (IntOp.cmpi CmpIPredicate.sge
          (IntOp.subi (IntOp.addi (IntOp.muli (BitVec.ofNat 32 s.val) 128#32) (BitVec.ofNat 32 d.val)) 128#32) 0#32)) x y
      = if vis (8192 * b + (s * 128 + u)) d then x else y := by
  have bit : IntOp.andi
        (IntOp.andi (IntOp.cmpi CmpIPredicate.sge (IntOp.subi (IntOp.addi (BitVec.ofNat 32 u.val) 128#32) (BitVec.ofNat 32 d.val)) 0#32)
          (IntOp.cmpi CmpIPredicate.slt (IntOp.subi (IntOp.addi (BitVec.ofNat 32 u.val) 128#32) (BitVec.ofNat 32 d.val)) 128#32))
        (IntOp.cmpi CmpIPredicate.sge
          (IntOp.subi (IntOp.addi (IntOp.muli (BitVec.ofNat 32 s.val) 128#32) (BitVec.ofNat 32 d.val)) 128#32) 0#32)
      = BitVec.ofBool (decide (d.val ≤ u.val + 128 ∧ u.val < d.val ∧ (1 ≤ s.val ∨ 128 ≤ d.val))) := by
    have e1 : (IntOp.subi (IntOp.addi (BitVec.ofNat 32 u.val) 128#32) (BitVec.ofNat 32 d.val)).toNat
        = (u.val + 128 + (2 ^ 32 - d.val)) % 2 ^ 32 := by
      simp only [IntOp.subi, IntOp.addi]; word_omega
    have e2 : (IntOp.subi (IntOp.addi (IntOp.muli (BitVec.ofNat 32 s.val) 128#32) (BitVec.ofNat 32 d.val)) 128#32).toNat
        = (s.val * 128 + d.val + (2 ^ 32 - 128)) % 2 ^ 32 := by
      simp only [IntOp.subi, IntOp.addi, IntOp.muli]; word_omega
    rw [WordCmp.andi_sge_zero_slt_ofNat (k := 128) (by norm_num), WordCmp.cmpi_sge_zero, WordCmp.andi_ofBool, ← Bool.decide_and,
      e1, e2]
    refine congrArg BitVec.ofBool (decide_eq_decide.mpr ?_)
    omega
  rw [bit, WordCmp.select_decide]
  have e : (vis (8192 * b + (s * 128 + u)) d) = (d.val ≤ u.val + 128 ∧ u.val < d.val ∧ (1 ≤ s.val ∨ 128 ≤ d.val)) := by
    unfold vis
    apply propext
    omega
  simp only [e]

/-- The masked scores. -/
theorem v113 (b : Fin 2) (s : Fin 64) (g : Fin 2) (e : Fin 4) (u : Fin 128) (d : Fin 256) :
    res_main_v113 V0 (ix6 b s g e u d) = score (inp V0) (8192 * b + (s * 128 + u)) (g * 4 + e) d := by
  unfold res_main_v113
  clean_types
  pointwise
  simp only [v69, v39, v40, v17, v19, v31, v85, v90, dite_eq_ite, rope_ladder]
  refine (mask_vis b s u d _ _).trans ?_
  unfold score scale kc
  have hg : (g * 4 + e : ℕ) / 4 = g := by omega
  rw [hg]
  refine congrArg (fun y : EReal => if vis (8192 * b + (s * 128 + u)) d then y * Ideal.ofBits FTy.f32 1040187392#32 else Ideal.ofBits FTy.f32 4286578688#32)
    (Finset.sum_congr rfl fun x _ => ?_)
  congr 1
  by_cases hd : d.val < 128
  · by_cases hs : s.val = 0
    · rw [if_pos hd, if_pos hs, if_pos (by omega)]
    · rw [if_pos hd, if_neg hs, if_neg (by omega)]
      congr 1
      omega
  · rw [if_neg hd, if_neg (by omega), if_neg (by omega)]
    congr 1
    omega

/-- The sinks. -/
theorem v115 (b : Fin 1) (s : Fin 1) (g : Fin 2) (e : Fin 4) (u : Fin 1) (d : Fin 1) :
    res_main_v115 V0 (ix6 b s g e u d) = (inp V0).Sk (g * 4 + e) := by
  unfold res_main_v115
  clean_types
  pointwise
  exact rd2_eq _ _ _

/-- The row's shift: the largest score and the sink. -/
theorem v119 (b : Fin 2) (s : Fin 64) (g : Fin 2) (e : Fin 4) (u : Fin 128) (d : Fin 1) :
    res_main_v119 V0 (ix6 b s g e u d) = mx (inp V0) (8192 * b + (s * 128 + u)) (g * 4 + e) := by
  unfold res_main_v119
  rw [max_last]
  clean_types
  pointwise
  simp only [v113, v115]
  unfold mx
  rfl

/-- The exponential weights. -/
theorem v122 (b : Fin 2) (s : Fin 64) (g : Fin 2) (e : Fin 4) (u : Fin 128) (d : Fin 256) :
    res_main_v122 V0 (ix6 b s g e u d) = pe (inp V0) (8192 * b + (s * 128 + u)) (g * 4 + e) d := by
  unfold res_main_v122
  clean_types
  pointwise
  rw [v113, v119]
  unfold pe
  rfl

/-- The convolution's input, two places of padding in front. -/
theorem v135 (b : Fin 2) (s : Fin 8194) (c : Fin 512) (k : ℕ) (hk : k ≤ 2) (hs : s.val + k < 8194) (hs2 : 2 ≤ s.val + k) :
    res_main_v135 V0 (ix3 b s c) = ub (inp V0) (8192 * b + (s + k - 2)) k c := by
  unfold res_main_v135
  clean_types
  pointwise
  simp only [v29]
  unfold ub uu
  by_cases h : 2 ≤ s.val
  · rw [dif_pos (by omega), if_neg (by omega)]
    have e : 8192 * b.val + (s + k - 2) - k = 8192 * b + (s - 2) := by omega
    rw [e]
  · rw [dif_neg (by omega), if_pos (by omega)]
    exact sitofp_zero (φ := .f32)

end Cert.Front.Ref
-- ==== Proof.RefMix.lean ====
/-
  The reference's mixer, read at an index: attention weights, the attention output, the gated convolution, and the
  residual sum with the output projection.
-/
module

public import proofs.«01_k».proof.Proof.RefAttn
public import Idealize.ShloMosaic.Lib.Pointwise.Sums

@[expose] public section
set_option maxRecDepth 16384
noncomputable section
namespace Cert.Front.Ref
open Cert.ReferenceIdeal Cert.ReferenceIdeal.Gen Cert.ReferenceIdeal.Value Idealize.ShloMosaic Idealize.ShloMosaic.TcCoe Idealize.SL.Sem Idealize.ShloMosaic.StableHlo

variable (V0 : Valuation τ sig (Elt Ideal))

/-- The attention weights as the reference writes them. -/
def probs : FVec Ideal S2x64x2x4x128x256 .f32 :=
  Host.divf (res_main_v122 V0) (broadcastInDim S2x64x2x4x128x256 ![0, 1, 2, 3, 4, 5] bcast_S2x64x2x4x128x1_S2x64x2x4x128x256_0_1_2_3_4_5 (addf (broadcastInDim S2x64x2x4x128x1 ![0, 1, 2, 3, 4] bcast_S2x64x2x4x128_S2x64x2x4x128x1_0_1_2_3_4 (Host.reduceAdd (res_main_v122 V0) (constant S_ .f32 0x00000000#32) reducesTo_S2x64x2x4x128x256_S2x64x2x4x128_d5 h_S_)) (Host.exp (subf (broadcastInDim S2x64x2x4x128x1 ![0, 1, 2, 3, 4, 5] bcast_S1x1x2x4x1x1_S2x64x2x4x128x1_0_1_2_3_4_5 (res_main_v115 V0)) (res_main_v119 V0)))))

/-- The padded values in blocks. -/
def vals : FVec Ideal S2x65x128x2x64 .f32 := res_main_v71 V0

/-- The attention output, heads apart. -/
def attnH : FVec Ideal S2x64x2x64x4x128 .f32 :=
  Host.dotGeneral dot_S2x64x256x2x64_S2x64x2x4x128x256_S2x64x2x64x4x128_2_5_4_34_013_012 none (concatenate S2x64x256x2x64 2 [⟨S2x64x128x2x64, (extractStridedSlice S2x64x128x2x64 ![0, 0, 0, 0, 0] (vals V0) slices_S2x65x128x2x64_S2x64x128x2x64_0_0_0_0_0)⟩, ⟨S2x64x128x2x64, (extractStridedSlice S2x64x128x2x64 ![0, 1, 0, 0, 0] (vals V0) slices_S2x65x128x2x64_S2x64x128x2x64_0_1_0_0_0)⟩] concatenates_S2x64x128x2x64_S2x64x128x2x64_S2x64x256x2x64_d2) (probs V0)

/-- The attention output, one row per token. -/
def attn : FVec Ideal S2x8192x512 .f32 :=
  shapeCast _ (transpose S2x64x128x2x4x64 [0, 1, 5, 2, 4, 3] (attnH V0) transposes_S2x64x2x64x4x128_S2x64x128x2x4x64_0_1_5_2_4_3) shapeCasts_S2x64x128x2x4x64_S2x8192x512

/-- The gated convolution. -/
def convo : FVec Ideal S2x8192x512 .f32 :=
  mulf (extractStridedSlice S2x8192x512 ![0, 0, 768] (res_main_v29 V0) slices_S2x8192x2304_S2x8192x512_0_0_768) (addf (addf (mulf (extractStridedSlice S2x8192x512 ![0, 0, 0] (res_main_v135 V0) slices_S2x8194x512_S2x8192x512_0_0_0) (broadcastInDim S2x8192x512 ![0, 1, 2] bcast_S1x1x512_S2x8192x512_0_1_2 (broadcastInDim S1x1x512 ![2] bcast_S512_S1x1x512_2 (shapeCast _ (extractStridedSlice S1x512 ![0, 0] (res_main_v23 V0) slices_S3x512_S1x512_0_0) shapeCasts_S1x512_S512)))) (mulf (extractStridedSlice S2x8192x512 ![0, 1, 0] (res_main_v135 V0) slices_S2x8194x512_S2x8192x512_0_1_0) (broadcastInDim S2x8192x512 ![0, 1, 2] bcast_S1x1x512_S2x8192x512_0_1_2 (broadcastInDim S1x1x512 ![2] bcast_S512_S1x1x512_2 (shapeCast _ (extractStridedSlice S1x512 ![1, 0] (res_main_v23 V0) slices_S3x512_S1x512_1_0) shapeCasts_S1x512_S512))))) (mulf (extractStridedSlice S2x8192x512 ![0, 2, 0] (res_main_v135 V0) slices_S2x8194x512_S2x8192x512_0_2_0) (broadcastInDim S2x8192x512 ![0, 1, 2] bcast_S1x1x512_S2x8192x512_0_1_2 (broadcastInDim S1x1x512 ![2] bcast_S512_S1x1x512_2 (shapeCast _ (extractStridedSlice S1x512 ![2, 0] (res_main_v23 V0) slices_S3x512_S1x512_2_0) shapeCasts_S1x512_S512)))))

/-- The output projection's weights and the tokens, at their array types. -/
def wOut : FVec Ideal S1024x1024 .f32 :=
  shapeCast _ (V0 (Proc.devRef .tc main_arg6) : FVec Ideal S1x1024x1024 .f32) shapeCasts_S1x1024x1024_S1024x1024

/-- The output projection before its bias. -/
def outp : FVec Ideal S2x8192x1024 .f32 :=
  Host.dotGeneral dot_S2x8192x1024_S1024x1024_S2x8192x1024_2_0_01_1_n_n none (concatenate S2x8192x1024 2 [⟨S2x8192x512, (attn V0)⟩, ⟨S2x8192x512, (convo V0)⟩] concatenates_S2x8192x512_S2x8192x512_S2x8192x1024_d2) (wOut V0)

/-- The output projection's bias, one row. -/
def bOut : FVec Ideal S1024 .f32 :=
  shapeCast _ (V0 (Proc.devRef .tc main_arg7) : FVec Ideal S1x1024 .f32) shapeCasts_S1x1024_S1024

/-- The tokens. -/
def xIn : FVec Ideal S2x8192x1024 .f32 := V0 (Proc.devRef .tc main_arg0)

/-- The residual's factor. -/
def alphaIn : FVec Ideal S2x8192x1024 .f32 :=
  broadcastInDim S2x8192x1024 ![] bcast_S_S2x8192x1024 (constant S_ .f32 0x3F9837F0#32)

/-- The residual's factor. -/
theorem alpha_at (i : S2x8192x1024.Idx) : alphaIn i = Ideal.ofBits .f32 0x3F9837F0#32 :=
  ValueIdx.broadcastInDim_scalar_apply _ _ _

/-- The bias, one copy per token. -/
def biasIn : FVec Ideal S2x8192x1024 .f32 :=
  broadcastInDim S2x8192x1024 ![0, 1, 2] bcast_S1x1x1024_S2x8192x1024_0_1_2 (broadcastInDim S1x1x1024 ![2] bcast_S1024_S1x1x1024_2 (bOut V0))

/-- The output bias, laid over all tokens. -/
theorem bias_at (b : Fin 2) (s : Fin 8192) (c : Fin 1024) : biasIn V0 (ix3 b s c) = bOut V0 (ix1 c) := by
  unfold biasIn
  pointwise

/-- The residual sum of the named parts. -/
def zsum : FVec Ideal S2x8192x1024 .f32 := addf (mulf alphaIn (xIn V0)) (addf (outp V0) (biasIn V0))

/-- The residual sum is the sum of its named parts. -/
theorem v164_eq : res_main_v164 V0 = zsum V0 := by
  unfold res_main_v164 zsum alphaIn biasIn xIn outp bOut wOut attn attnH vals convo probs
  rfl

/-- The convolution's taps. -/
theorem v23 (j : Fin 3) (c : Fin 512) : res_main_v23 V0 (ix2 j c) = (inp V0).CW j c := by
  unfold res_main_v23
  clean_types
  pointwise
  exact rd3_eq _ _ _ _

/-- The reference's attention weights. -/
theorem probs_at (b : Fin 2) (s : Fin 64) (g : Fin 2) (e : Fin 4) (u : Fin 128) (d : Fin 256) :
    probs V0 (ix6 b s g e u d) = Ideal.div (pe (inp V0) (8192 * b + (s * 128 + u)) (g * 4 + e) d)
      (den (inp V0) (8192 * b + (s * 128 + u)) (g * 4 + e)) := by
  unfold probs
  rw [sum_last]
  pointwise
  simp only [v122, v119, v115]
  unfold den
  rfl

/-- The reference's attention output, by block and head. -/
theorem attnH_at (b : Fin 2) (s : Fin 64) (g : Fin 2) (d : Fin 64) (e : Fin 4) (u : Fin 128) :
    attnH V0 (ix6 b s g d e u) = att (inp V0) (8192 * b + (s * 128 + u)) (g * 4 + e) d := by
  unfold attnH
  pointwise
  simp only [probs_at, vals, v71]
  unfold att vc
  have hg : (g * 4 + e : ℕ) / 4 = g := by omega
  rw [Fin.sum_univ_two_halves 128 128 rfl, hg]
  congr 1 <;> refine Finset.sum_congr rfl fun x _ => ?_
  · congr 1
    by_cases hs : s.val = 0
    · rw [if_pos hs, if_pos (by simp only; omega)]
    · rw [if_neg hs, if_neg (by simp only; omega)]
      congr 1
      simp only
      omega
  · congr 1
    rw [if_neg (by omega), if_neg (by simp only; omega)]
    congr 1
    simp only
    omega

/-- The reference's attention output, 512 channels a token. -/
theorem attn_at (b : Fin 2) (s : Fin 8192) (c : Fin 512) :
    attn V0 (ix3 b s c) = att (inp V0) (8192 * b + s) (c / 64) (c % 64) := by
  unfold attn
  pointwise
  simp only [attnH_at]
  have e1 : (s / 128 * 128 + s % 128 : ℕ) = s := by omega
  have e2 : (c / 256 * 4 + c / 64 % 4 : ℕ) = c / 64 := by omega
  rw [e1, e2]

/-- The reference's gated convolution. -/
theorem convo_at (b : Fin 2) (s : Fin 8192) (c : Fin 512) :
    convo V0 (ix3 b s c) = cv (inp V0) (8192 * b + s) c := by
  unfold convo
  pointwise
  simp only [v29]
  rw [v135 V0 b _ c 2 (by omega) (by simp only; omega) (by simp only; omega), v135 V0 b _ c 1 (by omega) (by simp only; omega) (by simp only; omega),
    v135 V0 b _ c 0 (by omega) (by simp only; omega) (by simp only; omega)]
  have e2 : 8192 * b.val + (s + 2 - 2) = 8192 * b + s := by omega
  have e1 : 8192 * b.val + (1 + s + 1 - 2) = 8192 * b + s := by omega
  have e0 : 8192 * b.val + (2 + s + 0 - 2) = 8192 * b + s := by omega
  simp only [e0, e1, e2, v23]
  unfold cv
  rfl

/-- The output projection's weights. -/
theorem wOut_at (k c : Fin 1024) : wOut V0 (ix2 k c) = (inp V0).WO k c := by
  unfold wOut
  pointwise
  exact rd3_eq _ _ _ _

/-- The output bias. -/
theorem bOut_at (c : Fin 1024) : bOut V0 (ix1 c) = (inp V0).BO c := by
  unfold bOut
  pointwise
  exact rd2_eq _ _ _

/-- A token. -/
theorem x_at (b : Fin 2) (s : Fin 8192) (c : Fin 1024) :
    xIn V0 (ix3 b s c) = (inp V0).X (8192 * b + s) c := by
  unfold xIn
  simp only [inp, argsIn, tok_div, tok_mod]
  exact rd3_eq _ _ _ _

/-- The output projection, before its bias. -/
theorem outp_at (b : Fin 2) (s : Fin 8192) (c : Fin 1024) :
    outp V0 (ix3 b s c) = ∑ k : Fin 1024, yy (inp V0) (8192 * b + s) k * (inp V0).WO k c := by
  unfold outp
  pointwise
  simp only [attn_at, convo_at]
  rw [Fin.sum_univ_two_halves 512 512 rfl]
  congr 1 <;> refine Finset.sum_congr rfl fun x _ => ?_
  · unfold yy
    rw [if_pos x.2, wOut_at]
  · unfold yy
    have e : 512 + x.val - 512 = x := by omega
    rw [if_neg (by simp only; omega), wOut_at, e]

/-- The sum of the parts, at an index. -/
theorem sum_parts {t : Shape} (p x o q : FVec Ideal t .f32) (i : t.Idx) :
    addf (mulf p x) (addf o q) i = p i * x i + (o i + q i) := rfl

/-- The residual sum of named parts, at an index. -/
theorem zsum_at (b : Fin 2) (s : Fin 8192) (c : Fin 1024) :
    zsum V0 (ix3 b s c) = alphaIn (ix3 b s c) * xIn V0 (ix3 b s c) + (outp V0 (ix3 b s c) + biasIn V0 (ix3 b s c)) := by
  unfold zsum
  exact sum_parts _ _ _ _ _

/-- The residual sum. -/
theorem v164 (b : Fin 2) (s : Fin 8192) (c : Fin 1024) :
    res_main_v164 V0 (ix3 b s c) = zz (inp V0) (8192 * b + s) c := by
  unfold zz
  rw [← outp_at, ← bOut_at, ← bias_at, ← x_at, ← alpha_at (ix3 b s c), ← zsum_at]
  exact congrFun (v164_eq V0) (ix3 b s c)

end Cert.Front.Ref
-- ==== Proof.RefOut.lean ====
/-
  The reference's results, read at an index: the layer norm of the residual sum, the query projection, and the scores
  of the two sub-key tables.
-/
module

public import proofs.«01_k».proof.Proof.RefMix

@[expose] public section
set_option maxRecDepth 16384
noncomputable section
namespace Cert.Front.Ref
open Cert.ReferenceIdeal Cert.ReferenceIdeal.Gen Cert.ReferenceIdeal.Value Idealize.ShloMosaic Idealize.ShloMosaic.TcCoe Idealize.SL.Sem Idealize.ShloMosaic.StableHlo

variable (V0 : Valuation τ sig (Elt Ideal))

/-- The residual sum less its mean. -/
theorem v172 (b : Fin 2) (s : Fin 8192) (c : Fin 1024) :
    res_main_v172 V0 (ix3 b s c) = xc (inp V0) (8192 * b + s) c := by
  unfold res_main_v172
  clean_types
  pointwise
  simp only [v164]
  unfold xc
  rfl

/-- The reference's first result: the layer norm. -/
theorem v189 (n : Fin 16384) (c : Fin 1024) : res_main_v189 V0 (ix2 n c) = hh (inp V0) n c := by
  unfold res_main_v189
  clean_types
  pointwise
  simp only [v172]
  have e : (8192 * (n / 8192) + n % 8192 : ℕ) = n := by omega
  rw [e]
  unfold hh
  have e1 : V0 (Proc.devRef .tc main_arg8) (ix2 0 c) = (inp V0).G c := rd2_eq _ _ _
  have e2 : V0 (Proc.devRef .tc main_arg9) (ix2 0 c) = (inp V0).Be c := rd2_eq _ _ _
  rw [e1, e2]

/-- The reference's queries, by head. -/
theorem v192 (n : Fin 16384) (h : Fin 8) (d : Fin 256) :
    res_main_v192 V0 (ix3 n h d) = qp (inp V0) n (256 * h + d) := by
  unfold res_main_v192
  clean_types
  pointwise
  simp only [v189]
  unfold qp
  refine Finset.sum_congr rfl fun x _ => congrArg (hh (inp V0) n x * ·) ?_
  rw [Nat.mul_comm 256]
  exact rd3_eq _ _ _ _

/-- The first result: the layer norm, one row per token. -/
def out0 : FVec Ideal S16384x1024 .f32 := fun i => hh (inp V0) (i 0).val (i 1).val

/-- The second: the same, one column per token. -/
def out1 : FVec Ideal S1024x16384 .bf16 := fun i => hh (inp V0) (i 1).val (i 0).val

/-- The scores of the first sub-key table, one column per token. -/
def out2 : FVec Ideal S8x128x16384 .f32 := fun i => sc1 (inp V0) (i 0).val (i 1).val (i 2).val

/-- The scores of the second sub-key table. -/
def out3 : FVec Ideal S8x128x16384 .f32 := fun i => sc2 (inp V0) (i 0).val (i 1).val (i 2).val

/-- The reference's scores of a sub-key table, the queries sliced from column `o`. -/
theorem scores_at (o : ℕ) (ho : o = 0 ∨ o = 128) (q : FVec Ideal S16384x8x256 .f32) (k : FVec Ideal S1x128x128 .f32)
    (hs : S16384x8x256.Slices ![0, 0, o] S16384x8x128) (h : Fin 8) (i : Fin 128) (n : Fin 16384) :
    transpose S8x128x16384 [1, 2, 0] (Host.dotGeneral dot_S16384x8x128_S128x128_S16384x8x128_2_1_01_0_n_n none
      (extractStridedSlice S16384x8x128 ![0, 0, o] q hs)
      (shapeCast S128x128 k shapeCasts_S1x128x128_S128x128)) transposes_S16384x8x128_S8x128x16384_1_2_0 (ix3 h i n)
      = ∑ d : Fin 128, q (ix3 n h ⟨o + d, by omega⟩) * k (ix3 0 i d) := by
  pointwise

/-- The first result is the layer norm, one row a token. -/
theorem out0_eq : res_main_v189 V0 = out0 V0 := by
  funext i
  rw [ValueIdx.eq_ix2 i]
  exact v189 V0 (i 0) (i 1)

/-- The transpose of a matrix, cast to bf16, at an index. -/
theorem truncT_at (q : FVec Ideal S16384x1024 .f32) (c : Fin 1024) (n : Fin 16384) :
    truncf .bf16 (transpose S1024x16384 [1, 0] q transposes_S16384x1024_S1024x16384_1_0) bitsLt_bf16_f32 (ix2 c n)
      = q (ix2 n c) := by
  pointwise

/-- The second result is the layer norm, one column a token. -/
theorem out1_eq : truncf .bf16 (transpose S1024x16384 [1, 0] (res_main_v189 V0)
    transposes_S16384x1024_S1024x16384_1_0) bitsLt_bf16_f32 = out1 V0 := by
  funext i
  rw [ValueIdx.eq_ix2 i]
  exact (truncT_at _ (i 0) (i 1)).trans (v189 V0 (i 1) (i 0))

/-- The third result is the scores of the first sub-key table. -/
theorem out2_eq : transpose S8x128x16384 [1, 2, 0] (Host.dotGeneral (F := Ideal) (φ₁ := .f32) (φ₂ := .f32)
    dot_S16384x8x128_S128x128_S16384x8x128_2_1_01_0_n_n none (extractStridedSlice S16384x8x128 ![0, 0, 0] (res_main_v192 V0) slices_S16384x8x256_S16384x8x128_0_0_0)
    (shapeCast S128x128 (V0 (Proc.devRef .tc main_arg11) : FVec Ideal S1x128x128 .f32) shapeCasts_S1x128x128_S128x128))
    transposes_S16384x8x128_S8x128x16384_1_2_0 = out2 V0 := by
  funext i
  rw [ValueIdx.eq_ix3 i]
  refine (scores_at 0 (.inl rfl) _ _ _ (i 0) (i 1) (i 2)).trans ?_
  refine Eq.trans ?_ (show sc1 (inp V0) (i 0).val (i 1).val (i 2).val = out2 V0 (ix3 (i 0) (i 1) (i 2)) from rfl)
  unfold sc1
  refine Finset.sum_congr rfl fun d _ => ?_
  refine congrArg₂ (· * ·) ((v192 V0 (i 2) (i 0) ⟨0 + d, by omega⟩).trans ?_) (rd3_eq _ _ _ _)
  exact congrArg (fun e => qp (inp V0) (i 2).val (256 * (i 0).val + e)) (Nat.zero_add d.val)

/-- The fourth result is the scores of the second sub-key table. -/
theorem out3_eq : transpose S8x128x16384 [1, 2, 0] (Host.dotGeneral (F := Ideal) (φ₁ := .f32) (φ₂ := .f32)
    dot_S16384x8x128_S128x128_S16384x8x128_2_1_01_0_n_n none (extractStridedSlice S16384x8x128 ![0, 0, 128] (res_main_v192 V0) slices_S16384x8x256_S16384x8x128_0_0_128)
    (shapeCast S128x128 (V0 (Proc.devRef .tc main_arg12) : FVec Ideal S1x128x128 .f32) shapeCasts_S1x128x128_S128x128))
    transposes_S16384x8x128_S8x128x16384_1_2_0 = out3 V0 := by
  funext i
  rw [ValueIdx.eq_ix3 i]
  refine (scores_at 128 (.inr rfl) _ _ _ (i 0) (i 1) (i 2)).trans ?_
  refine Eq.trans ?_ (show sc2 (inp V0) (i 0).val (i 1).val (i 2).val = out3 V0 (ix3 (i 0) (i 1) (i 2)) from rfl)
  unfold sc2
  exact Finset.sum_congr rfl fun d _ =>
    congrArg₂ (· * ·) (v192 V0 (i 2) (i 0) ⟨128 + d, by omega⟩) (rd3_eq _ _ _ _)

end Cert.Front.Ref
-- ==== Proof.Body.lean ====
/-
  The kernel's body at one grid point, written once: what it computes from its input blocks and from what it finds in
  the three buffers it carries (keys, values, convolution input). A buffer is read through a function of the stores
  made into it, so that the first point of a sequence, which clears the carried rows, and every other point, which
  finds them as the point before left them, are the same body.
-/
module

public import proofs.«01_k».proof.Proof.Gen.KernelIdeal.Skeleton
public import Idealize.ShloMosaic.Lib.Pipeline.FrameBody

@[expose] public section
set_option maxRecDepth 16384
noncomputable section
namespace Cert.Front.Tile
open Cert.KernelIdeal Cert.KernelIdeal.Gen Idealize.ShloMosaic Idealize.ShloMosaic.TcCoe Idealize.SL.Sem

variable {F : FTy → Type} [FloatOps F]

/-- A projection onto 128 columns. -/
def pj (x : FVec F S256x1024 .bf16) (w : Vec F S1024x128 .bf16) (b : Vec F S1x128 .f32) : FVec F S256x128 .f32 :=
  addf (matmul dot_S256x1024_S1024x128_S256x128_1_0_0_1_n_n none x (shapeCast S1024x128 w shapeCasts_S1024x128_S1024x128)
    (constant S256x128 .f32 0x00000000#32)) (broadcastTo S256x128 b broadcasts_S1x128_S256x128)

/-- A projection onto 512 columns. -/
def pj5 (x : FVec F S256x1024 .bf16) (w : Vec F S1024x512 .bf16) (b : Vec F S1x512 .f32) : FVec F S256x512 .f32 :=
  addf (matmul dot_S256x1024_S1024x512_S256x512_1_0_0_1_n_n none x (shapeCast S1024x512 w shapeCasts_S1024x512_S1024x512)
    (constant S256x512 .f32 0x00000000#32)) (broadcastTo S256x512 b broadcasts_S1x512_S256x512)

/-- The rotary embedding of two heads side by side, by lane rotations. -/
def rot (t rc rsa rsb : FVec F S256x128 .f32) : FVec F S256x128 .f32 :=
  addf (addf (mulf t rc) (mulf (dynamicRotate 1 120#32 none t rotates_S256x128_d1) rsa))
    (mulf (dynamicRotate 1 8#32 none t rotates_S256x128_d1) rsb)

/-- The scaled queries of two heads. -/
def qsl (t rc rsa rsb : FVec F S256x128 .f32) : FVec F S256x128 .bf16 :=
  truncf .bf16 (mulf (rot t rc rsa rsb) (broadcast S256x128 (Scalar.ofBits .f32 0x3E000000#32))) bitsLt_bf16_f32

/-- The buffer `t` in its four variants: each key head in the low and in the high lanes, zeros in the other half. -/
def kv0 (t : Vec F S384x128 .f32) : FVec F S384x128 .f32 :=
  select k0_pay13 t (broadcast S384x128 (Scalar.ofBits .f32 0x00000000#32))
@[inherit_doc kv0] def kv1 (t : Vec F S384x128 .f32) : FVec F S384x128 .f32 :=
  select k0_pay13 (broadcast S384x128 (Scalar.ofBits .f32 0x00000000#32)) (dynamicRotate 1 64#32 none t rotates_S384x128_d1)
@[inherit_doc kv0] def kv2 (t : Vec F S384x128 .f32) : FVec F S384x128 .f32 :=
  select k0_pay13 (dynamicRotate 1 64#32 none t rotates_S384x128_d1) (broadcast S384x128 (Scalar.ofBits .f32 0x00000000#32))
@[inherit_doc kv0] def kv3 (t : Vec F S384x128 .f32) : FVec F S384x128 .f32 :=
  select k0_pay13 (broadcast S384x128 (Scalar.ofBits .f32 0x00000000#32)) t

/-- A variant as it is stored. -/
def stk (t : FVec F S384x128 .f32) : FVec F S1x384x128 .bf16 :=
  shapeCast S1x384x128 (truncf .bf16 t bitsLt_bf16_f32) shapeCasts_S384x128_S1x384x128

/-- The first visible slot of block `blk` of grid point `i`: 128 in a sequence's first block, else 0. -/
def kmin (i blk : BitVec 32) : BitVec 32 :=
  let d := Scalar.select (Scalar.cmpi .eq 64#32 0#32) 1#32 64#32
  let r := Scalar.remsi (Scalar.addi (Scalar.muli i 2#32) blk) d
  Scalar.select (Scalar.cmpi .eq (Scalar.select (Scalar.andi (Scalar.xori (Scalar.cmpi .slt r 0#32) (Scalar.cmpi .slt d 0#32))
    (Scalar.cmpi .ne r 0#32)) (Scalar.addi r d) r) 0#32) 128#32 0#32

/-- The visible slots of a block's rows. -/
def msk (k : BitVec 32) : IVec S128x256 1 :=
  andi k0_pay26 (cmpi .sge (iota .tc S128x256 32 [1] iota_S128x256_d1_w32) (broadcast S128x256 k))

/-- Rows `0`–`127` of a tile's queries, and rows `128`–`255`. -/
def qlo (q : FVec F S256x128 .bf16) : FVec F S128x128 .bf16 :=
  extractStridedSlice S128x128 ![0, 0] q slices_S256x128_o0_0_S128x128
@[inherit_doc qlo] def qhi (q : FVec F S256x128 .bf16) : FVec F S128x128 .bf16 :=
  extractStridedSlice S128x128 ![128, 0] q slices_S256x128_o128_0_S128x128

/-- The masked scores of one head. -/
def sco (mask : IVec S128x256 1) (q : FVec F S128x128 .bf16) (k : Vec F S1x256x128 .bf16) : FVec F S128x256 .f32 :=
  select mask (matmul dot_S128x128_S256x128_S128x256_1_1_0_0_n_n none q
    (shapeCast S256x128 k shapeCasts_S1x256x128_S256x128 : FVec F S256x128 .bf16) (constant S128x256 .f32 0x00000000#32))
    (broadcast S128x256 (Scalar.ofBits .f32 0xFF800000#32))

/-- The row maxima of the scores and the sink. -/
def smx (s : FVec F S128x256 .f32) (sink : Elt F .f32) : FVec F S128x1 .f32 :=
  maximumf (shapeCast S128x1 (multiReduction .maximumf [1] S128 s 0xFF800000#32 reduces_S128x256_S128 (.inl rfl) rfl)
    shapeCasts_S128_S128x1) (broadcast S128x1 sink)

/-- The exponential weights. -/
def sex (s : FVec F S128x256 .f32) (sink : Elt F .f32) : FVec F S128x256 .f32 :=
  exp (subf s (broadcastTo S128x256 (smx s sink) broadcasts_S128x1_S128x256))

/-- The weights' sums with the sink's. -/
def sde (s : FVec F S128x256 .f32) (sink : Elt F .f32) : FVec F S128x1 .f32 :=
  addf (shapeCast S128x1 (multiReduction .add [1] S128 (sex s sink) 0x00000000#32 reduces_S128x256_S128 (.inl rfl) rfl)
    shapeCasts_S128_S128x1) (exp (subf (broadcast S128x1 sink) (smx s sink)))

/-- One head's probabilities times its values. -/
def hd (s : FVec F S128x256 .f32) (v : Vec F S1x256x128 .bf16) (sink : Elt F .f32) : FVec F S128x128 .f32 :=
  matmul dot_S128x256_S256x128_S128x128_1_0_0_1_n_n none
    (truncf .bf16 (divf (sex s sink) (broadcastTo S128x256 (sde s sink) broadcasts_S128x1_S128x256)) bitsLt_bf16_f32 :
      FVec F S128x256 .bf16)
    (shapeCast S256x128 v shapeCasts_S1x256x128_S256x128 : FVec F S256x128 .bf16) (constant S128x128 .f32 0x00000000#32)

/-- Two heads side by side: the sum of both. -/
def two (mask : IVec S128x256 1) (q : FVec F S128x128 .bf16) (k0 v0 k1 v1 : Vec F S1x256x128 .bf16) (s0 s1 : Elt F .f32) :
    FVec F S128x128 .bf16 :=
  shapeCast S128x128 (truncf .bf16 (addf (addf (broadcast S128x128 (Scalar.ofBits .f32 0x00000000#32))
    (hd (sco mask q k0) v0 s0)) (hd (sco mask q k1) v1 s1)) bitsLt_bf16_f32) shapeCasts_S128x128_S128x128

/-- The gated convolution. -/
def cvo (g u um1 um2 : FVec F S256x512 .f32) (cw : Vec F S3x512 .f32) : FVec F S256x512 .bf16 :=
  let c : FVec F S3x512 .f32 := shapeCast S3x512 cw shapeCasts_S3x512_S3x512
  shapeCast S256x512 (truncf .bf16 (mulf g (addf (addf
    (mulf (broadcastTo S256x512 (extractStridedSlice S1x512 ![0, 0] c slices_S3x512_o0_0_S1x512) broadcasts_S1x512_S256x512) um2)
    (mulf (broadcastTo S256x512 (extractStridedSlice S1x512 ![1, 0] c slices_S3x512_o1_0_S1x512) broadcasts_S1x512_S256x512) um1))
    (mulf (broadcastTo S256x512 (extractStridedSlice S1x512 ![2, 0] c slices_S3x512_o2_0_S1x512) broadcasts_S1x512_S256x512) u)))
    bitsLt_bf16_f32) shapeCasts_S256x512_S256x512

/-- The scores of a sub-key table, from the query columns at `o`. -/
def pks (o : ℕ) (h : S256x2048.Slices ![0, o] S256x128) (q : FVec F S256x2048 .bf16) (k : FVec F S128x128 .bf16) :
    FVec F S1x128x256 .f32 :=
  shapeCast S1x128x256 (matmul dot_S128x128_S256x128_S128x256_1_1_0_0_n_n none k
    (extractStridedSlice S256x128 ![0, o] q h) (constant S128x256 .f32 0x00000000#32) : FVec F S128x256 .f32)
    shapeCasts_S128x256_S1x128x256

/-- What a grid point finds: its number, its input blocks, and how each buffer reads after the stores made into it. -/
structure Env (F : FTy → Type) where
  i : BitVec 32
  x0 : Vec F S8 .f32
  x1 : Vec F S256x1024 .f32
  x2 : Vec F S256x128 .f32
  x3 : Vec F S256x128 .f32
  x4 : Vec F S256x128 .f32
  x5 : Vec F S1024x2304 .bf16
  x6 : Vec F S1x2304 .f32
  x7 : Vec F S3x512 .f32
  x8 : Vec F S1024x1024 .bf16
  x9 : Vec F S1x1024 .f32
  x10 : Vec F S1x1024 .f32
  x11 : Vec F S1x1024 .f32
  x12 : Vec F S1024x2048 .bf16
  x13 : Vec F S128x128 .bf16
  x14 : Vec F S128x128 .bf16
  rK : List (View.Piece (Elt F) S384x128 .f32) → Vec F S384x128 .f32
  rV : List (View.Piece (Elt F) S384x128 .f32) → Vec F S384x128 .f32
  rU : List (View.Piece (Elt F) S264x512 .f32) → Vec F S264x512 .f32
  cK : List (View.Piece (Elt F) S384x128 .f32) → Vec F S384x128 .f32
  cV : List (View.Piece (Elt F) S384x128 .f32) → Vec F S384x128 .f32
  cU : List (View.Piece (Elt F) S264x512 .f32) → Vec F S264x512 .f32
  r3 : List (View.Piece (Elt F) S4x384x128 .bf16) → Vec F S4x384x128 .bf16
  r4 : List (View.Piece (Elt F) S4x384x128 .bf16) → Vec F S4x384x128 .bf16
  r5 : List (View.Piece (Elt F) S256x1024 .bf16) → Vec F S256x1024 .bf16

variable (E : Env F)
namespace Env

/-- The tokens. -/
def x : Vec F S256x1024 .f32 := View.ld E.x1 (Rect.unit ![0, 0] S256x1024.size inb_S256x1024_S256x1024_0_0)
@[inherit_doc x] def xf : FVec F S256x1024 .f32 := shapeCast S256x1024 E.x shapeCasts_S256x1024_S256x1024
@[inherit_doc x] def xb : FVec F S256x1024 .bf16 := truncf .bf16 E.xf bitsLt_bf16_f32
/-- The rotary tables. -/
def rc : FVec F S256x128 .f32 :=
  shapeCast S256x128 (View.ld E.x2 (Rect.unit ![0, 0] S256x128.size inb_S256x128_S256x128_0_0)) shapeCasts_S256x128_S256x128
@[inherit_doc rc] def rsa : FVec F S256x128 .f32 :=
  shapeCast S256x128 (View.ld E.x3 (Rect.unit ![0, 0] S256x128.size inb_S256x128_S256x128_0_0)) shapeCasts_S256x128_S256x128
@[inherit_doc rc] def rsb : FVec F S256x128 .f32 :=
  shapeCast S256x128 (View.ld E.x4 (Rect.unit ![0, 0] S256x128.size inb_S256x128_S256x128_0_0)) shapeCasts_S256x128_S256x128

/-- The projection onto 128 columns at `o`. -/
def p1 (o : ℕ) (hw : ∀ a, (![0, o] : Fin 2 → ℕ) a + S1024x128.size a ≤ S1024x2304.size a)
    (hb : ∀ a, (![0, o] : Fin 2 → ℕ) a + S1x128.size a ≤ S1x2304.size a) : FVec F S256x128 .f32 :=
  pj E.xb (View.ld E.x5 (Rect.unit ![0, o] S1024x128.size hw)) (View.ld E.x6 (Rect.unit ![0, o] S1x128.size hb))

/-- The projection onto 512 columns at `o`. -/
def p5 (o : ℕ) (hw : ∀ a, (![0, o] : Fin 2 → ℕ) a + S1024x512.size a ≤ S1024x2304.size a)
    (hb : ∀ a, (![0, o] : Fin 2 → ℕ) a + S1x512.size a ≤ S1x2304.size a) : FVec F S256x512 .f32 :=
  pj5 E.xb (View.ld E.x5 (Rect.unit ![0, o] S1024x512.size hw)) (View.ld E.x6 (Rect.unit ![0, o] S1x512.size hb))

/-- The tile's keys, values, and convolution input. -/
def kn : FVec F S256x128 .f32 := rot (E.p1 512 inb_S1024x2304_S1024x128_0_512 inb_S1x2304_S1x128_0_512) E.rc E.rsa E.rsb
@[inherit_doc kn] def vn : FVec F S256x128 .f32 := E.p1 640 inb_S1024x2304_S1024x128_0_640 inb_S1x2304_S1x128_0_640
@[inherit_doc kn] def un : FVec F S256x512 .f32 :=
  mulf (E.p5 1280 inb_S1024x2304_S1024x512_0_1280 inb_S1x2304_S1x512_0_1280)
    (E.p5 1792 inb_S1024x2304_S1024x512_0_1792 inb_S1x2304_S1x512_0_1792)

/-- The three carried buffers after the tile's own rows are stored. -/
def kb : Vec F S384x128 .f32 :=
  E.rK [⟨Rect.unit ![128, 0] S256x128.size inb_S384x128_S256x128_128_0, shapeCast S256x128 E.kn shapeCasts_S256x128_S256x128⟩]
@[inherit_doc kb] def kbc : Vec F S384x128 .f32 :=
  E.cK [⟨Rect.unit ![128, 0] S256x128.size inb_S384x128_S256x128_128_0, shapeCast S256x128 E.kn shapeCasts_S256x128_S256x128⟩]
@[inherit_doc kb] def vb : Vec F S384x128 .f32 :=
  E.rV [⟨Rect.unit ![128, 0] S256x128.size inb_S384x128_S256x128_128_0, shapeCast S256x128 E.vn shapeCasts_S256x128_S256x128⟩]
@[inherit_doc kb] def vbc : Vec F S384x128 .f32 :=
  E.cV [⟨Rect.unit ![128, 0] S256x128.size inb_S384x128_S256x128_128_0, shapeCast S256x128 E.vn shapeCasts_S256x128_S256x128⟩]
@[inherit_doc kb] def ub : Vec F S264x512 .f32 :=
  E.rU [⟨Rect.unit ![8, 0] S256x512.size inb_S264x512_S256x512_8_0, shapeCast S256x512 E.un shapeCasts_S256x512_S256x512⟩]
@[inherit_doc kb] def ubc : Vec F S264x512 .f32 :=
  E.cU [⟨Rect.unit ![8, 0] S256x512.size inb_S264x512_S256x512_8_0, shapeCast S256x512 E.un shapeCasts_S256x512_S256x512⟩]

/-- The stores of the four variants of a buffer. -/
def vars (t : Vec F S384x128 .f32) : List (View.Piece (Elt F) S4x384x128 .bf16) :=
  [⟨Rect.unit ![3, 0, 0] S1x384x128.size inb_S4x384x128_S1x384x128_3_0_0, stk (kv3 t)⟩,
   ⟨Rect.unit ![2, 0, 0] S1x384x128.size inb_S4x384x128_S1x384x128_2_0_0, stk (kv2 t)⟩,
   ⟨Rect.unit ![1, 0, 0] S1x384x128.size inb_S4x384x128_S1x384x128_1_0_0, stk (kv1 t)⟩,
   ⟨Rect.unit ![0, 0, 0] S1x384x128.size inb_S4x384x128_S1x384x128_0_0_0, stk (kv0 t)⟩]

/-- The four variants of the keys and of the values. -/
def kvar : Vec F S4x384x128 .bf16 := E.r3 (vars (View.ld E.kb (Rect.unit ![0, 0] S384x128.size inb_S384x128_S384x128_0_0)))
@[inherit_doc kvar] def vvar : Vec F S4x384x128 .bf16 :=
  E.r4 (vars (View.ld E.vb (Rect.unit ![0, 0] S384x128.size inb_S384x128_S384x128_0_0)))

/-- A head's sink. -/
def snk (h : ℕ) (hs : ∀ a, (![h] : Fin 1 → ℕ) a + S1.size a ≤ S8.size a) : Elt F .f32 :=
  View.ld E.x0 (Rect.unit ![h] S1.size hs) (Shape.Idx.first (s := S1) (by decide))

/-- The queries of heads `2p` and `2p + 1`, from the projection's columns at `o`. -/
def qq (o : ℕ) (hw : ∀ a, (![0, o] : Fin 2 → ℕ) a + S1024x128.size a ≤ S1024x2304.size a)
    (hb : ∀ a, (![0, o] : Fin 2 → ℕ) a + S1x128.size a ≤ S1x2304.size a) : FVec F S256x128 .bf16 :=
  qsl (E.p1 o hw hb) E.rc E.rsa E.rsb

/-- Slots of variant `v`, from row `o`. -/
def win (T : Vec F S4x384x128 .bf16) (v o : ℕ) (h : ∀ a, (![v, o, 0] : Fin 3 → ℕ) a + S1x256x128.size a ≤ S4x384x128.size a) :
    Vec F S1x256x128 .bf16 := View.ld T (Rect.unit ![v, o, 0] S1x256x128.size h)

/-- The two heads of one block: its queries `q`, its rows' mask, its windows of variants `v` and `v + 1` at row `o`. -/
def blk (b : BitVec 32) (q : FVec F S128x128 .bf16) (v o h : ℕ)
    (h0 : ∀ a, (![v, o, 0] : Fin 3 → ℕ) a + S1x256x128.size a ≤ S4x384x128.size a)
    (h1 : ∀ a, (![v + 1, o, 0] : Fin 3 → ℕ) a + S1x256x128.size a ≤ S4x384x128.size a)
    (s0 : ∀ a, (![h] : Fin 1 → ℕ) a + S1.size a ≤ S8.size a) (s1 : ∀ a, (![h + 1] : Fin 1 → ℕ) a + S1.size a ≤ S8.size a) :
    FVec F S128x128 .bf16 :=
  two (msk (kmin E.i b)) q (win E.kvar v o h0) (win E.vvar v o h0) (win E.kvar (v + 1) o h1) (win E.vvar (v + 1) o h1)
    (E.snk h s0) (E.snk (h + 1) s1)

/-- The convolution's output. -/
def cvn : FVec F S256x512 .bf16 :=
  cvo (E.p5 768 inb_S1024x2304_S1024x512_0_768 inb_S1x2304_S1x512_0_768) E.un
    (View.ld E.ub (Rect.unit ![7, 0] S256x512.size inb_S264x512_S256x512_7_0))
    (View.ld E.ub (Rect.unit ![6, 0] S256x512.size inb_S264x512_S256x512_6_0))
    (View.ld E.x7 (Rect.unit ![0, 0] S3x512.size inb_S3x512_S3x512_0_0))

/-- The mixer's 1024 channels, as stores. -/
def yl : List (View.Piece (Elt F) S256x1024 .bf16) :=
  [⟨Rect.unit ![0, 512] S256x512.size inb_S256x1024_S256x512_0_512, E.cvn⟩,
   ⟨Rect.unit ![128, 384] S128x128.size inb_S256x1024_S128x128_128_384, E.blk 1#32 (qhi (E.qq 384 inb_S1024x2304_S1024x128_0_384 inb_S1x2304_S1x128_0_384)) 2 128 6
      inb_S4x384x128_S1x256x128_2_128_0 inb_S4x384x128_S1x256x128_3_128_0 inb_S8_S1_6 inb_S8_S1_7⟩,
   ⟨Rect.unit ![0, 384] S128x128.size inb_S256x1024_S128x128_0_384, E.blk 0#32 (qlo (E.qq 384 inb_S1024x2304_S1024x128_0_384 inb_S1x2304_S1x128_0_384)) 2 0 6
      inb_S4x384x128_S1x256x128_2_0_0 inb_S4x384x128_S1x256x128_3_0_0 inb_S8_S1_6 inb_S8_S1_7⟩,
   ⟨Rect.unit ![128, 256] S128x128.size inb_S256x1024_S128x128_128_256, E.blk 1#32 (qhi (E.qq 256 inb_S1024x2304_S1024x128_0_256 inb_S1x2304_S1x128_0_256)) 2 128 4
      inb_S4x384x128_S1x256x128_2_128_0 inb_S4x384x128_S1x256x128_3_128_0 inb_S8_S1_4 inb_S8_S1_5⟩,
   ⟨Rect.unit ![0, 256] S128x128.size inb_S256x1024_S128x128_0_256, E.blk 0#32 (qlo (E.qq 256 inb_S1024x2304_S1024x128_0_256 inb_S1x2304_S1x128_0_256)) 2 0 4
      inb_S4x384x128_S1x256x128_2_0_0 inb_S4x384x128_S1x256x128_3_0_0 inb_S8_S1_4 inb_S8_S1_5⟩,
   ⟨Rect.unit ![128, 128] S128x128.size inb_S256x1024_S128x128_128_128, E.blk 1#32 (qhi (E.qq 128 inb_S1024x2304_S1024x128_0_128 inb_S1x2304_S1x128_0_128)) 0 128 2
      inb_S4x384x128_S1x256x128_0_128_0 inb_S4x384x128_S1x256x128_1_128_0 inb_S8_S1_2 inb_S8_S1_3⟩,
   ⟨Rect.unit ![0, 128] S128x128.size inb_S256x1024_S128x128_0_128, E.blk 0#32 (qlo (E.qq 128 inb_S1024x2304_S1024x128_0_128 inb_S1x2304_S1x128_0_128)) 0 0 2
      inb_S4x384x128_S1x256x128_0_0_0 inb_S4x384x128_S1x256x128_1_0_0 inb_S8_S1_2 inb_S8_S1_3⟩,
   ⟨Rect.unit ![128, 0] S128x128.size inb_S256x1024_S128x128_128_0, E.blk 1#32 (qhi (E.qq 0 inb_S1024x2304_S1024x128_0_0 inb_S1x2304_S1x128_0_0)) 0 128 0
      inb_S4x384x128_S1x256x128_0_128_0 inb_S4x384x128_S1x256x128_1_128_0 inb_S8_S1_0 inb_S8_S1_1⟩,
   ⟨Rect.unit ![0, 0] S128x128.size inb_S256x1024_S128x128_0_0, E.blk 0#32 (qlo (E.qq 0 inb_S1024x2304_S1024x128_0_0 inb_S1x2304_S1x128_0_0)) 0 0 0
      inb_S4x384x128_S1x256x128_0_0_0 inb_S4x384x128_S1x256x128_1_0_0 inb_S8_S1_0 inb_S8_S1_1⟩]

@[inherit_doc yl] def y : Vec F S256x1024 .bf16 := View.ld (E.r5 E.yl) (Rect.unit ![0, 0] S256x1024.size inb_S256x1024_S256x1024_0_0)

/-- The residual sum. -/
def z : FVec F S256x1024 .f32 :=
  k0_pay103 E.xf E.y (View.ld E.x8 (Rect.unit ![0, 0] S1024x1024.size inb_S1024x1024_S1024x1024_0_0))
    (View.ld E.x9 (Rect.unit ![0, 0] S1x1024.size inb_S1x1024_S1x1024_0_0))

/-- The gains and biases of the norm. -/
def g : Vec F S1x1024 .f32 := View.ld E.x10 (Rect.unit ![0, 0] S1x1024.size inb_S1x1024_S1x1024_0_0)
@[inherit_doc g] def be : Vec F S1x1024 .f32 := View.ld E.x11 (Rect.unit ![0, 0] S1x1024.size inb_S1x1024_S1x1024_0_0)

/-- The layer norm. -/
def o15 : FVec F S256x1024 .f32 := k0_pay104 E.z E.g E.be
@[inherit_doc o15] def o16 : FVec F S1024x256 .bf16 := k0_pay105 E.z E.g E.be

/-- The queries of the product-key memory. -/
def qp : FVec F S256x2048 .bf16 :=
  k0_pay106 E.z E.g E.be (View.ld E.x12 (Rect.unit ![0, 0] S1024x2048.size inb_S1024x2048_S1024x2048_0_0))

/-- The sub-key tables. -/
def k1 : FVec F S128x128 .bf16 :=
  shapeCast S128x128 (View.ld E.x13 (Rect.unit ![0, 0] S128x128.size inb_S128x128_S128x128_0_0)) shapeCasts_S128x128_S128x128
@[inherit_doc k1] def k2 : FVec F S128x128 .bf16 :=
  shapeCast S128x128 (View.ld E.x14 (Rect.unit ![0, 0] S128x128.size inb_S128x128_S128x128_0_0)) shapeCasts_S128x128_S128x128

/-- The scores of a sub-key table, as stores, one per head. -/
def o17 : List (View.Piece (Elt F) S8x128x256 .f32) :=
  [⟨Rect.unit ![7, 0, 0] S1x128x256.size inb_S8x128x256_S1x128x256_7_0_0, pks 1792 slices_S256x2048_o0_1792_S256x128 E.qp E.k1⟩,
   ⟨Rect.unit ![6, 0, 0] S1x128x256.size inb_S8x128x256_S1x128x256_6_0_0, pks 1536 slices_S256x2048_o0_1536_S256x128 E.qp E.k1⟩,
   ⟨Rect.unit ![5, 0, 0] S1x128x256.size inb_S8x128x256_S1x128x256_5_0_0, pks 1280 slices_S256x2048_o0_1280_S256x128 E.qp E.k1⟩,
   ⟨Rect.unit ![4, 0, 0] S1x128x256.size inb_S8x128x256_S1x128x256_4_0_0, pks 1024 slices_S256x2048_o0_1024_S256x128 E.qp E.k1⟩,
   ⟨Rect.unit ![3, 0, 0] S1x128x256.size inb_S8x128x256_S1x128x256_3_0_0, pks 768 slices_S256x2048_o0_768_S256x128 E.qp E.k1⟩,
   ⟨Rect.unit ![2, 0, 0] S1x128x256.size inb_S8x128x256_S1x128x256_2_0_0, pks 512 slices_S256x2048_o0_512_S256x128 E.qp E.k1⟩,
   ⟨Rect.unit ![1, 0, 0] S1x128x256.size inb_S8x128x256_S1x128x256_1_0_0, pks 256 slices_S256x2048_o0_256_S256x128 E.qp E.k1⟩,
   ⟨Rect.unit ![0, 0, 0] S1x128x256.size inb_S8x128x256_S1x128x256_0_0_0, pks 0 slices_S256x2048_o0_0_S256x128 E.qp E.k1⟩]
@[inherit_doc o17] def o18 : List (View.Piece (Elt F) S8x128x256 .f32) :=
  [⟨Rect.unit ![7, 0, 0] S1x128x256.size inb_S8x128x256_S1x128x256_7_0_0, pks 1920 slices_S256x2048_o0_1920_S256x128 E.qp E.k2⟩,
   ⟨Rect.unit ![6, 0, 0] S1x128x256.size inb_S8x128x256_S1x128x256_6_0_0, pks 1664 slices_S256x2048_o0_1664_S256x128 E.qp E.k2⟩,
   ⟨Rect.unit ![5, 0, 0] S1x128x256.size inb_S8x128x256_S1x128x256_5_0_0, pks 1408 slices_S256x2048_o0_1408_S256x128 E.qp E.k2⟩,
   ⟨Rect.unit ![4, 0, 0] S1x128x256.size inb_S8x128x256_S1x128x256_4_0_0, pks 1152 slices_S256x2048_o0_1152_S256x128 E.qp E.k2⟩,
   ⟨Rect.unit ![3, 0, 0] S1x128x256.size inb_S8x128x256_S1x128x256_3_0_0, pks 896 slices_S256x2048_o0_896_S256x128 E.qp E.k2⟩,
   ⟨Rect.unit ![2, 0, 0] S1x128x256.size inb_S8x128x256_S1x128x256_2_0_0, pks 640 slices_S256x2048_o0_640_S256x128 E.qp E.k2⟩,
   ⟨Rect.unit ![1, 0, 0] S1x128x256.size inb_S8x128x256_S1x128x256_1_0_0, pks 384 slices_S256x2048_o0_384_S256x128 E.qp E.k2⟩,
   ⟨Rect.unit ![0, 0, 0] S1x128x256.size inb_S8x128x256_S1x128x256_0_0_0, pks 128 slices_S256x2048_o0_128_S256x128 E.qp E.k2⟩]

/-- What the point leaves in the carried buffers, as stores: the tile's last rows come first. -/
def ck : View.Piece (Elt F) S384x128 .f32 :=
  ⟨Rect.unit ![0, 0] S128x128.size inb_S384x128_S128x128_0_0,
    shapeCast S128x128 (View.ld E.kbc (Rect.unit ![256, 0] S128x128.size inb_S384x128_S128x128_256_0)) shapeCasts_S128x128_S128x128⟩
@[inherit_doc ck] def cvl : View.Piece (Elt F) S384x128 .f32 :=
  ⟨Rect.unit ![0, 0] S128x128.size inb_S384x128_S128x128_0_0,
    shapeCast S128x128 (View.ld E.vbc (Rect.unit ![256, 0] S128x128.size inb_S384x128_S128x128_256_0)) shapeCasts_S128x128_S128x128⟩
@[inherit_doc ck] def cu : View.Piece (Elt F) S264x512 .f32 :=
  ⟨Rect.unit ![0, 0] S8x512.size inb_S264x512_S8x512_0_0,
    shapeCast S8x512 (View.ld E.ubc (Rect.unit ![256, 0] S8x512.size inb_S264x512_S8x512_256_0)) shapeCasts_S8x512_S8x512⟩

end Env
end Cert.Front.Tile
end
-- ==== Proof.Ops.lean ====
/-
  The operations of the body over the extended reals, read at an index.
-/
module

public import proofs.«01_k».proof.Proof.Body
public import proofs.«01_k».proof.Proof.Spec
public import Idealize.ShloMosaic.Lib.Pointwise
public import Idealize.ShloMosaic.Lib.WordCmp
public import Idealize.ShloMosaic.Lib.Tactic.WordOmega

@[expose] public section
set_option maxRecDepth 16384
noncomputable section
namespace Cert.Front.Tile
open Cert.KernelIdeal Cert.KernelIdeal.Gen Idealize.ShloMosaic Idealize.ShloMosaic.TcCoe Idealize.SL.Sem

/-- A projection onto 128 columns, at an index: the row times the column, and the bias. -/
theorem pj_at (x : FVec Ideal S256x1024 .bf16) (w : Vec Ideal S1024x128 .bf16) (b : Vec Ideal S1x128 .f32) (r : Fin 256) (c : Fin 128) :
    pj x w b (ix2 r c) = (∑ k : Fin 1024, x (ix2 r k) * w (ix2 k c)) + b (ix2 0 c) := by
  unfold pj
  pointwise

/-- A projection onto 512 columns, at an index. -/
theorem pj5_at (x : FVec Ideal S256x1024 .bf16) (w : Vec Ideal S1024x512 .bf16) (b : Vec Ideal S1x512 .f32) (r : Fin 256) (c : Fin 512) :
    pj5 x w b (ix2 r c) = (∑ k : Fin 1024, x (ix2 r k) * w (ix2 k c)) + b (ix2 0 c) := by
  unfold pj5
  pointwise

/-- The rotation at an index: the lane itself, the lane eight ahead and the lane eight behind, each times its table. -/
theorem rot_at (t rc rsa rsb : FVec Ideal S256x128 .f32) (r : Fin 256) (l : Fin 128) :
    rot t rc rsa rsb (ix2 r l) = t (ix2 r l) * rc (ix2 r l) + t (ix2 r ⟨(l + 128 - 120) % 128, Nat.mod_lt _ (by norm_num)⟩) * rsa (ix2 r l)
      + t (ix2 r ⟨(l + 128 - 8) % 128, Nat.mod_lt _ (by norm_num)⟩) * rsb (ix2 r l) := by
  unfold rot
  pointwise

/-- The query slab at an index: the rotated projection, scaled. -/
theorem qsl_at (t rc rsa rsb : FVec Ideal S256x128 .f32) (r : Fin 256) (l : Fin 128) :
    qsl t rc rsa rsb (ix2 r l) = rot t rc rsa rsb (ix2 r l) * scale := by
  unfold qsl scale
  pointwise

/-- The comparison of a lane with 64 selects by the half of the slab that the lane is in. -/
theorem lo_sel (l : Fin 128) (x y : EReal) :
    Scalar.select (IntOp.cmpi CmpIPredicate.slt (BitVec.ofNat 32 l.val) 64#32) x y = if l.val < 64 then x else y := by
  have e : ∀ l : Fin 128, IntOp.cmpi CmpIPredicate.slt (BitVec.ofNat 32 l.val) 64#32 = BitVec.ofBool (decide (l.val < 64)) := by
    decide
  rw [e l, WordCmp.select_decide]

/-- The least visible key slot: 128 in the first block of a sequence, 0 in every other. -/
theorem kmin_at : ∀ t : Fin 64, kmin (BitVec.ofNat 32 t.val) 0#32 = BitVec.ofNat 32 (if t.val % 32 = 0 then 128 else 0)
    ∧ kmin (BitVec.ofNat 32 t.val) 1#32 = BitVec.ofNat 32 0 := by
  decide

/-- The mask selects what is visible. -/
theorem msk_at (k : ℕ) (hk : k = 0 ∨ k = 128) (r : Fin 128) (j : Fin 256) (x y : EReal) :
    Scalar.select (msk (BitVec.ofNat 32 k) (ix2 r j)) x y = if j.val ≤ r.val + 128 ∧ r.val < j.val ∧ k ≤ j.val then x else y := by
  unfold msk k0_pay26
  pointwise
  have e1 : (IntOp.subi (IntOp.addi (BitVec.ofNat 32 r.val) 128#32) (BitVec.ofNat 32 j.val)).toNat
      = (r.val + 128 + (2 ^ 32 - j.val)) % 2 ^ 32 := by
    simp only [IntOp.subi, IntOp.addi]; word_omega
  have bit : IntOp.andi
        (IntOp.andi (IntOp.cmpi CmpIPredicate.sge (IntOp.subi (IntOp.addi (BitVec.ofNat 32 r.val) 128#32) (BitVec.ofNat 32 j.val)) 0#32)
          (IntOp.cmpi CmpIPredicate.slt (IntOp.subi (IntOp.addi (BitVec.ofNat 32 r.val) 128#32) (BitVec.ofNat 32 j.val)) 128#32))
        (IntOp.cmpi CmpIPredicate.sge (BitVec.ofNat 32 j.val) (BitVec.ofNat 32 k))
      = BitVec.ofBool (decide (j.val ≤ r.val + 128 ∧ r.val < j.val ∧ k ≤ j.val)) := by
    rw [WordCmp.andi_sge_zero_slt_ofNat (k := 128) (by norm_num),
      WordCmp.cmpi_sge_ofNat (by norm_num; omega) (by norm_num; omega), WordCmp.andi_ofBool, ← Bool.decide_and, e1]
    refine congrArg BitVec.ofBool (decide_eq_decide.mpr ?_)
    omega
  rw [bit, WordCmp.select_decide]

/-- The first placing of a slab: its lower half where it was, zeros above. -/
theorem kv0_at (t : Vec Ideal S384x128 .f32) (r : Fin 384) (l : Fin 128) :
    kv0 t (ix2 r l) = if l.val < 64 then t (ix2 r l) else 0 := by
  unfold kv0 k0_pay13
  pointwise
  exact lo_sel l _ _

/-- The second placing: the lower half moved up, zeros below. -/
theorem kv1_at (t : Vec Ideal S384x128 .f32) (r : Fin 384) (l : Fin 128) :
    kv1 t (ix2 r l) = if l.val < 64 then 0 else t (ix2 r ⟨(l + 128 - 64) % 128, Nat.mod_lt _ (by norm_num)⟩) := by
  unfold kv1 k0_pay13
  pointwise
  exact lo_sel l _ _

/-- The third placing: the upper half moved down, zeros above. -/
theorem kv2_at (t : Vec Ideal S384x128 .f32) (r : Fin 384) (l : Fin 128) :
    kv2 t (ix2 r l) = if l.val < 64 then t (ix2 r ⟨(l + 128 - 64) % 128, Nat.mod_lt _ (by norm_num)⟩) else 0 := by
  unfold kv2 k0_pay13
  pointwise
  exact lo_sel l _ _

/-- The fourth placing: the upper half where it was, zeros below. -/
theorem kv3_at (t : Vec Ideal S384x128 .f32) (r : Fin 384) (l : Fin 128) :
    kv3 t (ix2 r l) = if l.val < 64 then 0 else t (ix2 r l) := by
  unfold kv3 k0_pay13
  pointwise
  exact lo_sel l _ _

/-- A slab as one layer of a stack holds the same elements. -/
theorem stk_at (t : FVec Ideal S384x128 .f32) (o : Fin 1) (r : Fin 384) (l : Fin 128) : stk t (ix3 o r l) = t (ix2 r l) := by
  unfold stk
  pointwise

/-- A masked score at an index: the product of the query row and the key row where the mask is on, −∞ elsewhere. -/
theorem sco_at (m : IVec S128x256 1) (q : FVec Ideal S128x128 .bf16) (k : Vec Ideal S1x256x128 .bf16) (r : Fin 128) (j : Fin 256) :
    sco m q k (ix2 r j) = Scalar.select (m (ix2 r j)) (∑ d : Fin 128, q (ix2 r d) * k (ix3 0 j d)) (Ideal.ofBits .f32 0xFF800000#32) := by
  unfold sco
  pointwise

/-- The largest score of a row, the sink included. -/
theorem smx_at (s : FVec Ideal S128x256 .f32) (k : EReal) (r : Fin 128) (o : Fin 1) :
    smx s k (ix2 r o) = max (Finset.univ.fold max (Ideal.ofBits .f32 0xFF800000#32) fun j : Fin 256 => s (ix2 r j)) k := by
  unfold smx
  pointwise

/-- The exponential of a score less the largest. -/
theorem sex_at (s : FVec Ideal S128x256 .f32) (k : EReal) (r : Fin 128) (j : Fin 256) :
    sex s k (ix2 r j) = Ideal.exp (s (ix2 r j) - smx s k (ix2 r 0)) := by
  unfold sex
  generalize smx s k = m
  pointwise

/-- A row's sum of exponentials, the sink's included. -/
theorem sde_at (s : FVec Ideal S128x256 .f32) (k : EReal) (r : Fin 128) (o : Fin 1) :
    sde s k (ix2 r o) = (∑ j : Fin 256, sex s k (ix2 r j)) + Ideal.exp (k - smx s k (ix2 r o)) := by
  unfold sde
  generalize sex s k = e
  generalize smx s k = m
  pointwise

/-- One head's output at an index: the values weighted by the quotients. -/
theorem hd_at (s : FVec Ideal S128x256 .f32) (v : Vec Ideal S1x256x128 .bf16) (k : EReal) (r l : Fin 128) :
    hd s v k (ix2 r l) = ∑ j : Fin 256, Ideal.div (sex s k (ix2 r j)) (sde s k (ix2 r 0)) * v (ix3 0 j l) := by
  unfold hd
  generalize sex s k = e
  generalize sde s k = m
  pointwise

/-- A slab of the attention output is the sum of its two heads. -/
theorem two_at (m : IVec S128x256 1) (q : FVec Ideal S128x128 .bf16) (k0 v0 k1 v1 : Vec Ideal S1x256x128 .bf16) (s0 s1 : EReal) (r l : Fin 128) :
    two m q k0 v0 k1 v1 s0 s1 (ix2 r l) = hd (sco m q k0) v0 s0 (ix2 r l) + hd (sco m q k1) v1 s1 (ix2 r l) := by
  unfold two
  generalize hd (sco m q k0) v0 s0 = a
  generalize hd (sco m q k1) v1 s1 = b
  pointwise

/-- The queries of the tile's first block. -/
theorem qlo_at (q : FVec Ideal S256x128 .bf16) (r l : Fin 128) : qlo q (ix2 r l) = q (ix2 ⟨r, by omega⟩ l) := by
  unfold qlo
  pointwise

/-- The queries of the tile's second block. -/
theorem qhi_at (q : FVec Ideal S256x128 .bf16) (r l : Fin 128) : qhi q (ix2 r l) = q (ix2 ⟨128 + r, by omega⟩ l) := by
  unfold qhi
  pointwise

/-- The gated convolution at an index: three taps, times the gate. -/
theorem cvo_at (g u um1 um2 : FVec Ideal S256x512 .f32) (cw : Vec Ideal S3x512 .f32) (r : Fin 256) (c : Fin 512) :
    cvo g u um1 um2 cw (ix2 r c) = g (ix2 r c) * (cw (ix2 0 c) * um2 (ix2 r c) + cw (ix2 1 c) * um1 (ix2 r c) + cw (ix2 2 c) * u (ix2 r c)) := by
  unfold cvo
  pointwise

/-- The scores of a sub-key table at an index: sub-key times query, over 128 columns from column `o`. -/
theorem pks_at (o : ℕ) (h : S256x2048.Slices ![0, o] S256x128) (ho : o + 128 ≤ 2048) (q : FVec Ideal S256x2048 .bf16) (k : FVec Ideal S128x128 .bf16)
    (z : Fin 1) (i : Fin 128) (r : Fin 256) :
    pks o h q k (ix3 z i r) = ∑ d : Fin 128, k (ix2 i d) * q (ix2 r ⟨o + d, by omega⟩) := by
  unfold pks
  pointwise

/-- The residual sum at an index. -/
theorem z_at (x : FVec Ideal S256x1024 .f32) (y : Vec Ideal S256x1024 .bf16) (w : Vec Ideal S1024x1024 .bf16) (b : Vec Ideal S1x1024 .f32)
    (r : Fin 256) (c : Fin 1024) :
    k0_pay103 x y w b (ix2 r c) = Ideal.ofBits .f32 0x3F9837F0#32 * x (ix2 r c) + ((∑ k : Fin 1024, y (ix2 r k) * w (ix2 k c)) + b (ix2 0 c)) := by
  unfold k0_pay103
  pointwise

/-- A row less its mean. -/
def ctr (z : FVec Ideal S256x1024 .f32) (r : Fin 256) (c : Fin 1024) : EReal :=
  z (ix2 r c) - Ideal.div (∑ k : Fin 1024, z (ix2 r k)) (Ideal.ofBits .f32 0x44800000#32)

/-- The layer norm at an index. -/
theorem ln_at (z : FVec Ideal S256x1024 .f32) (g b : Vec Ideal S1x1024 .f32) (r : Fin 256) (c : Fin 1024) :
    k0_pay104 z g b (ix2 r c) = ctr z r c * Ideal.rsqrt (Ideal.div (∑ k : Fin 1024, ctr z r k * ctr z r k) (Ideal.ofBits .f32 0x44800000#32)
      + Ideal.ofBits .f32 0x3727C5AC#32) * g (ix2 0 c) + b (ix2 0 c) := by
  unfold k0_pay104 ctr
  pointwise

/-- The transposed layer norm at an index. -/
theorem lnT_at (z : FVec Ideal S256x1024 .f32) (g b : Vec Ideal S1x1024 .f32) (r : Fin 256) (c : Fin 1024) :
    k0_pay105 z g b (ix2 c r) = k0_pay104 z g b (ix2 r c) := by
  unfold k0_pay105
  generalize k0_pay104 z g b = h
  pointwise

/-- The query projection at an index. -/
theorem qp_at (z : FVec Ideal S256x1024 .f32) (g b : Vec Ideal S1x1024 .f32) (w : Vec Ideal S1024x2048 .bf16) (r : Fin 256) (e : Fin 2048) :
    k0_pay106 z g b w (ix2 r e) = ∑ k : Fin 1024, k0_pay104 z g b (ix2 r k) * w (ix2 k e) := by
  unfold k0_pay106
  generalize k0_pay104 z g b = h
  pointwise

end Cert.Front.Tile
end
-- ==== Proof.Head.lean ====
/-
  Two heads side by side are two heads: the body's attention over packed lanes is the specification's attention.
-/
module

public import proofs.«01_k».proof.Proof.Ops

@[expose] public section
set_option maxRecDepth 16384
noncomputable section
namespace Cert.Front.Tile
open Cert.KernelIdeal Cert.KernelIdeal.Gen Idealize.ShloMosaic Idealize.ShloMosaic.TcCoe Idealize.SL.Sem

/-- A factor that is a nonnegative real moves out of a sum. -/
theorem sum_mul_coe {ι : Type} (s : Finset ι) (f : ι → EReal) (k : ℝ) (hk : 0 ≤ k) :
    (∑ i ∈ s, f i) * (k : EReal) = ∑ i ∈ s, f i * (k : EReal) := by
  classical
  induction s using Finset.induction_on with
  | empty => simp
  | insert a s ha ih =>
    rw [Finset.sum_insert ha, Finset.sum_insert ha,
      EReal.right_distrib_of_nonneg_of_ne_top (EReal.coe_nonneg.mpr hk) (EReal.coe_ne_top k), ih]

/-- The scale is a nonnegative real. -/
theorem scale_coe : ∃ k : ℝ, 0 ≤ k ∧ scale = (k : EReal) := by
  refine ⟨1 / 8, by norm_num, ?_⟩
  unfold scale
  simp [Ideal.ofBits, Ideal.ieee, -EReal.coe_mul]
  norm_num

/-- A sum over 128 lanes of which one half is zero. -/
theorem sum_lo (f : ℕ → EReal) (g : ℕ → EReal) :
    (∑ d : Fin 128, f d.val * (if d.val < 64 then g d.val else 0)) = ∑ d : Fin 64, f d.val * g d.val := by
  rw [Fin.sum_univ_two_halves 64 64 rfl]
  rw [Finset.sum_eq_zero (s := Finset.univ) (f := fun d : Fin 64 => f (64 + d.val) * (if (64 + d.val) < 64 then g (64 + d.val) else 0))
    (fun d _ => by rw [if_neg (by omega), mul_zero]), add_zero]
  exact Finset.sum_congr rfl fun d _ => by rw [if_pos (show d.val < 64 from d.2)]

/-- A sum over 128 lanes of which the lower half is zero. -/
theorem sum_hi (f : ℕ → EReal) (g : ℕ → EReal) :
    (∑ d : Fin 128, f d.val * (if d.val < 64 then 0 else g d.val)) = ∑ d : Fin 64, f (64 + d.val) * g (64 + d.val) := by
  rw [Fin.sum_univ_two_halves 64 64 rfl]
  rw [Finset.sum_eq_zero (s := Finset.univ) (f := fun d : Fin 64 => f d.val * (if d.val < 64 then 0 else g d.val))
    (fun d _ => by rw [if_pos d.2, mul_zero]), zero_add]
  exact Finset.sum_congr rfl fun d _ => by rw [if_neg (show ¬ (64 + d.val) < 64 by omega)]

variable (a : In)

/-- What one block's head reads: for the tokens `n0 + r`, the scaled queries `q`, from lane `o`; the keys and values of
    key head `h / 4` in the same lanes, zeros in the others; the head's sink. -/
structure Reads (n0 h : ℕ) (hi : Bool) (q : FVec Ideal S128x128 .bf16) (k v : Vec Ideal S1x256x128 .bf16) (s : EReal) : Prop where
  hq : ∀ (r : Fin 128) (d : Fin 128), (if hi then 64 ≤ d.val else d.val < 64) →
    q (ix2 r d) = rope a (n0 + r) (64 * h) (d.val % 64) * scale
  hk : ∀ (r : Fin 128) (j : Fin 256) (d : Fin 128),
    k (ix3 0 j d) = if (if hi then 64 ≤ d.val else d.val < 64) then kc a (n0 + r) (h / 4) j (d.val % 64) else 0
  hv : ∀ (r : Fin 128) (j : Fin 256) (d : Fin 128),
    v (ix3 0 j d) = if (if hi then 64 ≤ d.val else d.val < 64) then vc a (n0 + r) (h / 4) j (d.val % 64) else 0
  hs : s = a.Sk h

variable {a} {n0 h : ℕ} {hi : Bool} {q : FVec Ideal S128x128 .bf16} {k v : Vec Ideal S1x256x128 .bf16} {s : EReal}
  {m : IVec S128x256 1}

/-- The product over 128 lanes is the head's score: the other head's half of the keys is zero. -/
theorem dot_at (R : Reads a n0 h hi q k v s) (r : Fin 128) (j : Fin 256) :
    (∑ d : Fin 128, q (ix2 r d) * k (ix3 0 j d)) = (∑ d : Fin 64, kc a (n0 + r) (h / 4) j d * rope a (n0 + r) (64 * h) d) * scale := by
  obtain ⟨c, hc, e⟩ := scale_coe
  rw [e, sum_mul_coe _ _ _ hc, ← e]
  cases hi with
  | false =>
    refine Eq.trans ?_ ((sum_lo (fun d => rope a (n0 + r) (64 * h) (d % 64) * scale) (fun d => kc a (n0 + r) (h / 4) j (d % 64))).trans ?_)
    · refine Finset.sum_congr rfl fun d _ => ?_
      rw [R.hk r j d]
      by_cases hd : d.val < 64
      · rw [R.hq r d (by simpa using hd)]
        simp [hd]
      · simp [hd]
    · refine Finset.sum_congr rfl fun d _ => ?_
      rw [Nat.mod_eq_of_lt d.2, mul_comm, mul_assoc]
  | true =>
    refine Eq.trans ?_ ((sum_hi (fun d => rope a (n0 + r) (64 * h) (d % 64) * scale) (fun d => kc a (n0 + r) (h / 4) j (d % 64))).trans ?_)
    · refine Finset.sum_congr rfl fun d _ => ?_
      rw [R.hk r j d]
      by_cases hd : d.val < 64
      · simp [hd]
      · rw [R.hq r d (by simpa using hd)]
        simp [hd, Nat.le_of_not_lt hd]
    · refine Finset.sum_congr rfl fun d _ => ?_
      rw [Nat.add_mod_left, Nat.mod_eq_of_lt d.2, mul_comm, mul_assoc]

variable (hm : ∀ (r : Fin 128) (j : Fin 256) (x y : EReal), Scalar.select (m (ix2 r j)) x y = if vis (n0 + r) j then x else y)
include hm

/-- The tile's masked scores are the specification's. -/
theorem sco_eq (R : Reads a n0 h hi q k v s) (r : Fin 128) (j : Fin 256) : sco m q k (ix2 r j) = score a (n0 + r) h j := by
  rw [sco_at, hm, dot_at R]
  unfold score
  rfl

/-- The tile's row maxima are the specification's. -/
theorem smx_eq (R : Reads a n0 h hi q k v s) (r : Fin 128) (o : Fin 1) : smx (sco m q k) s (ix2 r o) = mx a (n0 + r) h := by
  rw [smx_at, R.hs]
  unfold mx
  simp only [sco_eq hm R]

/-- The tile's exponentials are the specification's. -/
theorem sex_eq (R : Reads a n0 h hi q k v s) (r : Fin 128) (j : Fin 256) : sex (sco m q k) s (ix2 r j) = pe a (n0 + r) h j := by
  rw [sex_at, smx_eq hm R, sco_eq hm R]
  unfold pe
  rfl

/-- The tile's denominators are the specification's. -/
theorem sde_eq (R : Reads a n0 h hi q k v s) (r : Fin 128) (o : Fin 1) : sde (sco m q k) s (ix2 r o) = den a (n0 + r) h := by
  rw [sde_at, smx_eq hm R]
  simp only [sex_eq hm R]
  rw [R.hs]
  unfold den
  rfl

/-- One head's output fills its half of the slab with the specification's attention, and the other half with zeros. -/
theorem hd_eq (R : Reads a n0 h hi q k v s) (r l : Fin 128) : hd (sco m q k) v s (ix2 r l)
    = if (if hi then 64 ≤ l.val else l.val < 64) then att a (n0 + r) h (l.val % 64) else 0 := by
  rw [hd_at]
  simp only [sex_eq hm R, sde_eq hm R, R.hv r]
  by_cases hc : (if hi then 64 ≤ l.val else l.val < 64)
  · simp only [hc, if_true]
    unfold att
    exact Finset.sum_congr rfl fun j _ => mul_comm (G := EReal) _ _
  · simp only [hc, if_false, mul_zero, Finset.sum_const_zero]

omit hm in
/-- Two heads. -/
theorem two_eq (hm : ∀ (r : Fin 128) (j : Fin 256) (x y : EReal), Scalar.select (m (ix2 r j)) x y = if vis (n0 + r) j then x else y)
    {k1 v1 : Vec Ideal S1x256x128 .bf16} {s1 : EReal} (R : Reads a n0 h false q k v s) (R1 : Reads a n0 (h + 1) true q k1 v1 s1)
    (r l : Fin 128) : two m q k v k1 v1 s s1 (ix2 r l) = att a (n0 + r) (h + l.val / 64) (l.val % 64) := by
  rw [two_at, hd_eq hm R, hd_eq hm R1]
  by_cases hl : l.val < 64
  · simp [hl, Nat.div_eq_of_lt hl, Nat.not_le.mpr hl]
  · have e : l.val / 64 = 1 := by omega
    simp [hl, e, Nat.le_of_not_lt hl]

end Cert.Front.Tile
end
-- ==== Proof.TileVal.lean ====
/-
  What one tile computes: over the blocks of tile `t` and the rows carried from the tile before, each of the body's values
  is the specification's, at the tokens `256 t`, …, `256 t + 255`.
-/
module

public import proofs.«01_k».proof.Proof.Head
public import Idealize.ShloMosaic.Lib.Pipeline.ValueKit.Tiles

@[expose] public section
set_option maxRecDepth 16384
noncomputable section
namespace Cert.Front.Tile
open Cert.KernelIdeal Cert.KernelIdeal.Gen Idealize.ShloMosaic Idealize.ShloMosaic.TcCoe Idealize.SL.Sem

/-! ## Loads and stores at an index -/

/-- A load through a unit rectangle of a matrix. -/
theorem ld2 {α : Type} {A B m n p o : ℕ} (X : (⟨2, ![A, B]⟩ : Shape).Idx → α)
    (inb : ∀ a, (![p, o] : Fin 2 → ℕ) a + (![m, n] : Fin 2 → ℕ) a ≤ (⟨2, ![A, B]⟩ : Shape).size a) (i : Fin m) (j : Fin n) :
    X ((Rect.unit (s := ⟨2, ![A, B]⟩) ![p, o] ![m, n] inb).idx (ix2 i j))
      = X (ix2 ⟨p + i, lt_of_lt_of_le (Nat.add_lt_add_left i.2 p) (inb 0)⟩ ⟨o + j, lt_of_lt_of_le (Nat.add_lt_add_left j.2 o) (inb 1)⟩) := by
  refine congrArg X (funext fun a => Fin.ext ?_)
  rw [Rect.idx_unit_val]
  fin_cases a <;> rfl

/-- A load through a unit rectangle of a rank-3 array. -/
theorem ld3 {α : Type} {A B C m n k p o q : ℕ} (X : (⟨3, ![A, B, C]⟩ : Shape).Idx → α)
    (inb : ∀ a, (![p, o, q] : Fin 3 → ℕ) a + (![m, n, k] : Fin 3 → ℕ) a ≤ (⟨3, ![A, B, C]⟩ : Shape).size a) (i : Fin m) (j : Fin n) (l : Fin k) :
    X ((Rect.unit (s := ⟨3, ![A, B, C]⟩) ![p, o, q] ![m, n, k] inb).idx (ix3 i j l))
      = X (ix3 ⟨p + i, lt_of_lt_of_le (Nat.add_lt_add_left i.2 p) (inb 0)⟩ ⟨o + j, lt_of_lt_of_le (Nat.add_lt_add_left j.2 o) (inb 1)⟩
        ⟨q + l, lt_of_lt_of_le (Nat.add_lt_add_left l.2 q) (inb 2)⟩) := by
  refine congrArg X (funext fun a => Fin.ext ?_)
  rw [Rect.idx_unit_val]
  fin_cases a <;> rfl

/-- A matrix left by stores has the values `V` where the last store has them and, off it, the earlier ones do. -/
theorem canon2 {A B m n p o : ℕ} {e : EltTy} (V : ℕ → ℕ → Elt Ideal e)
    (inb : ∀ a, (![p, o] : Fin 2 → ℕ) a + (![m, n] : Fin 2 → ℕ) a ≤ (⟨2, ![A, B]⟩ : Shape).size a)
    (w : (⟨2, ![m, n]⟩ : Shape).Idx → Elt Ideal e) (L : List (View.Piece (Elt Ideal) ⟨2, ![A, B]⟩ e)) (i : Fin A) (j : Fin B)
    (hw : ∀ (r : Fin m) (l : Fin n), p + r.val = i → o + l.val = j → w (ix2 r l) = V (p + r) (o + l))
    (hL : ¬ (p ≤ i.val ∧ i.val < p + m ∧ o ≤ j.val ∧ j.val < o + n) → View.canon L (ix2 i j) = V i j) :
    View.canon ((⟨Rect.unit (s := ⟨2, ![A, B]⟩) ![p, o] ![m, n] inb, w⟩ : View.Piece (Elt Ideal) ⟨2, ![A, B]⟩ e) :: L) (ix2 i j) = V i j := by
  by_cases h : p ≤ i.val ∧ i.val < p + m ∧ o ≤ j.val ∧ j.val < o + n
  · have e : (ix2 i j : (⟨2, ![A, B]⟩ : Shape).Idx)
        = (Rect.unit (s := ⟨2, ![A, B]⟩) ![p, o] ![m, n] inb).emb (ix2 (⟨i - p, by omega⟩ : Fin m) (⟨j - o, by omega⟩ : Fin n)) := by
      funext a
      refine Fin.ext ?_
      fin_cases a
      · show i.val = p + 1 * (i.val - p); omega
      · show j.val = o + 1 * (j.val - o); omega
    rw [e, View.canon_cons_emb, hw _ _ (by simp only; omega) (by simp only; omega)]
    congr 1 <;> simp only <;> omega
  · rw [View.canon_cons_of_not_mem, hL h]
    intro hm
    obtain ⟨x, hx⟩ := (Rect.unit (s := ⟨2, ![A, B]⟩) ![p, o] ![m, n] inb).exists_idx_of_mem hm
    have h0 : p + 1 * (x 0).val = i.val := congrArg Fin.val (congrFun hx 0)
    have h1 : o + 1 * (x 1).val = j.val := congrArg Fin.val (congrFun hx 1)
    have l0 : (x 0).val < m := (x 0).2
    have l1 : (x 1).val < n := (x 1).2
    exact h ⟨by omega, by omega, by omega, by omega⟩

/-- The same of a rank-3 array stored in slabs. -/
theorem canon3 {A B C p : ℕ} {e : EltTy} (V : ℕ → Elt Ideal e)
    (inb : ∀ a, (![p, 0, 0] : Fin 3 → ℕ) a + (![1, B, C] : Fin 3 → ℕ) a ≤ (⟨3, ![A, B, C]⟩ : Shape).size a)
    (w : (⟨3, ![1, B, C]⟩ : Shape).Idx → Elt Ideal e) (L : List (View.Piece (Elt Ideal) ⟨3, ![A, B, C]⟩ e)) (i : Fin A) (j : Fin B) (k : Fin C)
    (hw : i.val = p → w (ix3 0 j k) = V p)
    (hL : i.val ≠ p → View.canon L (ix3 i j k) = V i) :
    View.canon ((⟨Rect.unit (s := ⟨3, ![A, B, C]⟩) ![p, 0, 0] ![1, B, C] inb, w⟩ : View.Piece (Elt Ideal) ⟨3, ![A, B, C]⟩ e) :: L) (ix3 i j k) = V i := by
  by_cases h : i.val = p
  · have e : (ix3 i j k : (⟨3, ![A, B, C]⟩ : Shape).Idx)
        = (Rect.unit (s := ⟨3, ![A, B, C]⟩) ![p, 0, 0] ![1, B, C] inb).emb (ix3 (0 : Fin 1) j k) := by
      funext a
      refine Fin.ext ?_
      fin_cases a
      · show i.val = p + 1 * 0; omega
      · show j.val = 0 + 1 * j.val; omega
      · show k.val = 0 + 1 * k.val; omega
    rw [e, View.canon_cons_emb, hw h, h]
  · rw [View.canon_cons_of_not_mem, hL h]
    intro hm
    obtain ⟨x, hx⟩ := (Rect.unit (s := ⟨3, ![A, B, C]⟩) ![p, 0, 0] ![1, B, C] inb).exists_idx_of_mem hm
    have h0 : p + 1 * (x 0).val = i.val := congrArg Fin.val (congrFun hx 0)
    have l0 : (x 0).val < 1 := (x 0).2
    exact h (by omega)

/-! ## The rotary tables -/

/-- The rotary tables: what multiplies a channel, the channel eight above, the channel eight below. -/
def rcT (a : In) (n d : ℕ) : EReal := if d < 8 then a.cs n d else if d < 16 then a.cs n (d - 8) else 1
@[inherit_doc rcT] def rsaT (a : In) (n d : ℕ) : EReal := if d < 8 then -(a.sn n d) else 0
@[inherit_doc rcT] def rsbT (a : In) (n d : ℕ) : EReal := if d < 8 then 0 else if d < 16 then a.sn n (d - 8) else 0

/-- The lane rotations are the rotary embedding. -/
theorem rope_lane (a : In) (n B l : ℕ) (hl : l < 128) :
    proj a n (B + l) * rcT a n (l % 64) + proj a n (B + (l + 128 - 120) % 128) * rsaT a n (l % 64)
      + proj a n (B + (l + 128 - 8) % 128) * rsbT a n (l % 64) = rope a n (B + 64 * (l / 64)) (l % 64) := by
  unfold rope rcT rsaT rsbT
  have e0 : B + 64 * (l / 64) + l % 64 = B + l := by omega
  by_cases h8 : l % 64 < 8
  · have e1 : B + 64 * (l / 64) + (l % 64 + 8) = B + (l + 128 - 120) % 128 := by omega
    simp only [h8, if_true, e0, e1, mul_zero, add_zero, mul_neg, sub_eq_add_neg]
  · by_cases h16 : l % 64 < 16
    · have e1 : B + 64 * (l / 64) + (l % 64 - 8) = B + (l + 128 - 8) % 128 := by omega
      simp only [h8, h16, if_true, if_false, e0, e1, mul_zero, add_zero]
    · simp only [h8, h16, if_false, e0, mul_zero, add_zero, mul_one]

/-! ## The tile -/

/-- What tile `t` finds: its blocks, and the rows carried from the tile before. -/
structure Ok (a : In) (t : ℕ) (E : Env Ideal) : Prop where
  ht : t < 64
  hi : E.i = BitVec.ofNat 32 t
  h0 : ∀ h : Fin 8, E.x0 (ix1 h) = a.Sk h
  h1 : ∀ (r : Fin 256) (c : Fin 1024), E.x1 (ix2 r c) = a.X (256 * t + r) c
  h2 : ∀ (r : Fin 256) (l : Fin 128), E.x2 (ix2 r l) = rcT a (256 * t + r) (l % 64)
  h3 : ∀ (r : Fin 256) (l : Fin 128), E.x3 (ix2 r l) = rsaT a (256 * t + r) (l % 64)
  h4 : ∀ (r : Fin 256) (l : Fin 128), E.x4 (ix2 r l) = rsbT a (256 * t + r) (l % 64)
  h5 : ∀ (k : Fin 1024) (c : Fin 2304), E.x5 (ix2 k c) = a.W k c
  h6 : ∀ c : Fin 2304, E.x6 (ix2 0 c) = a.Bi c
  h7 : ∀ (j : Fin 3) (c : Fin 512), E.x7 (ix2 j c) = a.CW j c
  h8 : ∀ k c : Fin 1024, E.x8 (ix2 k c) = a.WO k c
  h9 : ∀ c : Fin 1024, E.x9 (ix2 0 c) = a.BO c
  h10 : ∀ c : Fin 1024, E.x10 (ix2 0 c) = a.G c
  h11 : ∀ c : Fin 1024, E.x11 (ix2 0 c) = a.Be c
  h12 : ∀ (k : Fin 1024) (e : Fin 2048), E.x12 (ix2 k e) = a.WP k e
  h13 : ∀ i d : Fin 128, E.x13 (ix2 i d) = a.K1 i d
  h14 : ∀ i d : Fin 128, E.x14 (ix2 i d) = a.K2 i d
  rK : ∀ w (i : Fin 384) (l : Fin 128), E.rK [⟨Rect.unit ![128, 0] S256x128.size inb_S384x128_S256x128_128_0, w⟩] (ix2 i l)
    = if h : i.val < 128 then (if t % 32 = 0 then 0 else rope a (256 * t + i - 128) (512 + 64 * (l / 64)) (l % 64))
      else w (ix2 (⟨i - 128, by omega⟩ : Fin 256) l)
  rV : ∀ w (i : Fin 384) (l : Fin 128), E.rV [⟨Rect.unit ![128, 0] S256x128.size inb_S384x128_S256x128_128_0, w⟩] (ix2 i l)
    = if h : i.val < 128 then (if t % 32 = 0 then 0 else proj a (256 * t + i - 128) (640 + l))
      else w (ix2 (⟨i - 128, by omega⟩ : Fin 256) l)
  rU : ∀ w (i : Fin 264) (l : Fin 512), E.rU [⟨Rect.unit ![8, 0] S256x512.size inb_S264x512_S256x512_8_0, w⟩] (ix2 i l)
    = if h : i.val < 8 then (if t % 32 = 0 then 0 else uu a (256 * t + i - 8) l)
      else w (ix2 (⟨i - 8, by omega⟩ : Fin 256) l)
  cK : ∀ w (i : Fin 256) (l : Fin 128), E.cK [⟨Rect.unit ![128, 0] S256x128.size inb_S384x128_S256x128_128_0, w⟩]
    (ix2 (⟨128 + i, by omega⟩ : Fin 384) l) = w (ix2 i l)
  cV : ∀ w (i : Fin 256) (l : Fin 128), E.cV [⟨Rect.unit ![128, 0] S256x128.size inb_S384x128_S256x128_128_0, w⟩]
    (ix2 (⟨128 + i, by omega⟩ : Fin 384) l) = w (ix2 i l)
  cU : ∀ w (i : Fin 256) (l : Fin 512), E.cU [⟨Rect.unit ![8, 0] S256x512.size inb_S264x512_S256x512_8_0, w⟩]
    (ix2 (⟨8 + i, by omega⟩ : Fin 264) l) = w (ix2 i l)
  r3 : E.r3 = View.canon
  r4 : E.r4 = View.canon
  r5 : E.r5 = View.canon

variable {a : In} {t : ℕ} {E : Env Ideal} (ok : Ok a t E)
include ok

/-- The tile's tokens. -/
theorem x_at (r : Fin 256) (c : Fin 1024) : E.xf (ix2 r c) = a.X (256 * t + r) c := by
  rw [← ok.h1 r c]
  unfold Env.xf Env.x
  pointwise

/-- The tile's tokens, cast. -/
theorem xb_at (r : Fin 256) (c : Fin 1024) : E.xb (ix2 r c) = a.X (256 * t + r) c := x_at ok r c

/-- The first rotary table of the tile. -/
theorem rc_at (r : Fin 256) (l : Fin 128) : E.rc (ix2 r l) = rcT a (256 * t + r) (l % 64) := by
  rw [← ok.h2 r l]
  unfold Env.rc
  pointwise

/-- The second rotary table of the tile. -/
theorem rsa_at (r : Fin 256) (l : Fin 128) : E.rsa (ix2 r l) = rsaT a (256 * t + r) (l % 64) := by
  rw [← ok.h3 r l]
  unfold Env.rsa
  pointwise

/-- The third rotary table of the tile. -/
theorem rsb_at (r : Fin 256) (l : Fin 128) : E.rsb (ix2 r l) = rsbT a (256 * t + r) (l % 64) := by
  rw [← ok.h4 r l]
  unfold Env.rsb
  pointwise

/-- A projection of the tile onto 128 columns. -/
theorem p1_at (o : ℕ) (hw hb) (r : Fin 256) (l : Fin 128) : E.p1 o hw hb (ix2 r l) = proj a (256 * t + r) (o + l) := by
  unfold Env.p1
  rw [pj_at]
  unfold proj
  refine congrArg₂ (· + ·) (Finset.sum_congr rfl fun k _ => congrArg₂ (· * ·) (xb_at ok r k) ?_) ?_
  · refine (ld2 E.x5 hw k l).trans ((ok.h5 _ _).trans ?_)
    simp only [Nat.zero_add]
  · exact (ld2 E.x6 hb 0 l).trans (ok.h6 _)

/-- A projection of the tile onto 512 columns. -/
theorem p5_at (o : ℕ) (hw hb) (r : Fin 256) (l : Fin 512) : E.p5 o hw hb (ix2 r l) = proj a (256 * t + r) (o + l) := by
  unfold Env.p5
  rw [pj5_at]
  unfold proj
  refine congrArg₂ (· + ·) (Finset.sum_congr rfl fun k _ => congrArg₂ (· * ·) (xb_at ok r k) ?_) ?_
  · refine (ld2 E.x5 hw k l).trans ((ok.h5 _ _).trans ?_)
    simp only [Nat.zero_add]
  · exact (ld2 E.x6 hb 0 l).trans (ok.h6 _)

/-- A rotated projection of the tile: two heads of 64 columns, each rotated. -/
theorem rot_eq (o : ℕ) (hw hb) (r : Fin 256) (l : Fin 128) :
    rot (E.p1 o hw hb) E.rc E.rsa E.rsb (ix2 r l) = rope a (256 * t + r) (o + 64 * (l / 64)) (l % 64) := by
  rw [rot_at, p1_at ok, p1_at ok, p1_at ok, rc_at ok, rsa_at ok, rsb_at ok]
  exact rope_lane a _ o l l.2

/-- The tile's own keys. -/
theorem kn_at (r : Fin 256) (l : Fin 128) : E.kn (ix2 r l) = rope a (256 * t + r) (512 + 64 * (l / 64)) (l % 64) :=
  rot_eq ok 512 _ _ r l

/-- The tile's own values. -/
theorem vn_at (r : Fin 256) (l : Fin 128) : E.vn (ix2 r l) = proj a (256 * t + r) (640 + l) := p1_at ok 640 _ _ r l

/-- The tile's own inputs of the convolution. -/
theorem un_at (r : Fin 256) (l : Fin 512) : E.un (ix2 r l) = uu a (256 * t + r) l := by
  unfold Env.un uu
  rw [← p5_at ok 1280 inb_S1024x2304_S1024x512_0_1280 inb_S1x2304_S1x512_0_1280,
    ← p5_at ok 1792 inb_S1024x2304_S1024x512_0_1792 inb_S1x2304_S1x512_0_1792]
  rfl

/-- A query slab of the tile: two heads, rotated and scaled. -/
theorem qq_at (o : ℕ) (hw hb) (r : Fin 256) (l : Fin 128) :
    E.qq o hw hb (ix2 r l) = rope a (256 * t + r) (o + 64 * (l / 64)) (l % 64) * scale := by
  unfold Env.qq
  rw [qsl_at, rot_eq ok]

/-- The carried and the tile's own keys. -/
theorem kb_at (i : Fin 384) (l : Fin 128) : E.kb (ix2 i l)
    = if t % 32 = 0 ∧ i.val < 128 then 0 else rope a (256 * t + i - 128) (512 + 64 * (l / 64)) (l % 64) := by
  unfold Env.kb
  rw [ok.rK]
  by_cases h : i.val < 128
  · rw [dif_pos h]
    simp only [h, and_true]
  · rw [dif_neg h, if_neg (fun h' => h h'.2)]
    refine ((by pointwise : _ = E.kn (ix2 (⟨i - 128, by omega⟩ : Fin 256) l))).trans ((kn_at ok _ _).trans ?_)
    congr 1
    simp only
    omega

/-- The carried and the tile's own values. -/
theorem vb_at (i : Fin 384) (l : Fin 128) : E.vb (ix2 i l)
    = if t % 32 = 0 ∧ i.val < 128 then 0 else proj a (256 * t + i - 128) (640 + l) := by
  unfold Env.vb
  rw [ok.rV]
  by_cases h : i.val < 128
  · rw [dif_pos h]
    simp only [h, and_true]
  · rw [dif_neg h, if_neg (fun h' => h h'.2)]
    refine ((by pointwise : _ = E.vn (ix2 (⟨i - 128, by omega⟩ : Fin 256) l))).trans ((vn_at ok _ _).trans ?_)
    congr 1
    simp only
    omega

/-- The carried and the tile's own convolution input. -/
theorem ub_at (i : Fin 264) (l : Fin 512) : E.ub (ix2 i l)
    = if t % 32 = 0 ∧ i.val < 8 then 0 else uu a (256 * t + i - 8) l := by
  unfold Env.ub
  rw [ok.rU]
  by_cases h : i.val < 8
  · rw [dif_pos h]
    simp only [h, and_true]
  · rw [dif_neg h, if_neg (fun h' => h h'.2)]
    refine ((by pointwise : _ = E.un (ix2 (⟨i - 8, by omega⟩ : Fin 256) l))).trans ((un_at ok _ _).trans ?_)
    congr 1
    simp only
    omega

end Cert.Front.Tile
end
-- ==== Proof.HostVal.lean ====
/-
  What the kernel's windows are taken from: the arrays the program prepares before the call, read at an index.
-/
module

public import proofs.«01_k».proof.Proof.TileVal
public import proofs.«01_k».proof.Proof.Gen.KernelIdeal.Frame
public import Idealize.ShloMosaic.Lib.StableHlo.RunRead
public import Idealize.ShloMosaic.Lib.ValueLayout
public import Idealize.ShloMosaic.Lib.Tactic.CleanTypes

@[expose] public section
set_option maxRecDepth 16384
noncomputable section
namespace Cert.Front.Tile
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- What the kernel reads. -/
def inpK : In := argsIn (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))
  (m ((c : Thread nD τ).loc main_arg12))

/-! ## The rotary tables -/

/-- The angles, one row a token. -/
def angA (p : S2x8192.Idx → BitVec 32) : FVec Ideal S16384x8 .f32 :=
  mulf (broadcastInDim S16384x8 ![0, 1] bcast_S16384x1_S16384x8_0_1 (sitofp (F := Ideal) .f32 (shapeCast S16384x1 p shapeCasts_S2x8192_S16384x1)))
    (broadcastInDim S16384x8 ![0, 1] bcast_S1x8_S16384x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp (F := Ideal) .f32 (iotaInDim S8 32 0)))))
          (broadcastInDim S8 ![] bcast_S_S8 (constant S_ .f32 0x41800000#32))))))

/-- A table of 64 channels, once for each of the two heads that share a register row. -/
def two64 (q : FVec Ideal S16384x64 .f32) : FVec Ideal S16384x128 .f32 :=
  shapeCast S16384x128 (broadcastInDim S1x16384x2x64 ![0, 1, 2, 3] bcast_S1x16384x1x64_S1x16384x2x64_0_1_2_3
    (shapeCast S1x16384x1x64 q shapeCasts_S16384x64_S1x16384x1x64)) shapeCasts_S1x16384x2x64_S16384x128

/-- The first rotary table: cosines twice, then ones, the 64 columns laid twice. -/
theorem V28 : V m c main_v28 = two64 (concatenate S16384x64 1 [⟨S16384x8, Host.cos (angA (m ((c : Thread nD τ).loc main_arg1)))⟩,
    ⟨S16384x8, Host.cos (angA (m ((c : Thread nD τ).loc main_arg1)))⟩,
    ⟨S16384x48, broadcastInDim S16384x48 ![] bcast_S_S16384x48 (constant S_ .f32 0x3F800000#32)⟩] concatenates_S16384x8_S16384x8_S16384x48_S16384x64_d1) := by
  after_reads_simp
  rfl

/-- The second rotary table: negated sines, then zeros, laid twice. -/
theorem V31 : V m c main_v31 = two64 (concatenate S16384x64 1 [⟨S16384x8, Host.negf (Host.sin (angA (m ((c : Thread nD τ).loc main_arg1))))⟩,
    ⟨S16384x56, broadcastInDim S16384x56 ![] bcast_S_S16384x56 (constant S_ .f32 0x00000000#32)⟩] concatenates_S16384x8_S16384x56_S16384x64_d1) := by
  after_reads_simp
  rfl

/-- The third rotary table: zeros, sines, zeros, laid twice. -/
theorem V34 : V m c main_v34 = two64 (concatenate S16384x64 1 [⟨S16384x8, broadcastInDim S16384x8 ![] bcast_S_S16384x8 (constant S_ .f32 0x00000000#32)⟩,
    ⟨S16384x8, Host.sin (angA (m ((c : Thread nD τ).loc main_arg1)))⟩,
    ⟨S16384x48, broadcastInDim S16384x48 ![] bcast_S_S16384x48 (constant S_ .f32 0x00000000#32)⟩] concatenates_S16384x8_S16384x8_S16384x48_S16384x64_d1) := by
  after_reads_simp
  rfl

/-- An angle at an index. -/
theorem angA_at (p : S2x8192.Idx → BitVec 32) (n : Fin 16384) (j : Fin 8) :
    angA p (ix2 n j) = ang (rdw p (n / 8192) (n % 8192)) j := by
  have e : rdw p (n / 8192) (n % 8192) = p (ix2 (⟨n / 8192, by omega⟩ : Fin 2) (⟨n % 8192, by omega⟩ : Fin 8192)) :=
    (rdw_eq p (⟨n / 8192, by omega⟩ : Fin 2) (⟨n % 8192, by omega⟩ : Fin 8192)).symm
  rw [e]
  unfold angA
  pointwise
  unfold ang
  rfl

/-- A table of 64 columns laid twice, at an index. -/
theorem two64_at (q : FVec Ideal S16384x64 .f32) (n : Fin 16384) (l : Fin 128) :
    two64 q (ix2 n l) = q (ix2 n (⟨l % 64, by omega⟩ : Fin 64)) := by
  unfold two64
  pointwise

/-- The table of cosines, ones above channel sixteen. -/
theorem rc_val (n : Fin 16384) (l : Fin 128) : V m c main_v28 (ix2 n l) = rcT (inpK m c) n (l % 64) := by
  rw [V28, two64_at]
  unfold rcT inpK argsIn
  pointwise
  simp only [angA_at]
  have e : (l.val % 64 - 8 < 8) = (l.val % 64 < 16) := propext (by omega)
  simp only [e, dite_eq_ite]

/-- The second rotary table at an index. -/
theorem rsa_val (n : Fin 16384) (l : Fin 128) : V m c main_v31 (ix2 n l) = rsaT (inpK m c) n (l % 64) := by
  rw [V31, two64_at]
  unfold rsaT inpK argsIn
  pointwise
  simp only [angA_at]
  simp only [dite_eq_ite]

/-- The third rotary table at an index. -/
theorem rsb_val (n : Fin 16384) (l : Fin 128) : V m c main_v34 (ix2 n l) = rsbT (inpK m c) n (l % 64) := by
  rw [V34, two64_at]
  unfold rsbT inpK argsIn
  pointwise
  simp only [angA_at]
  have e : (l.val % 64 - 8 < 8) = (l.val % 64 < 16) := propext (by omega)
  simp only [e, dite_eq_ite]

/-! ## The tokens and the weights -/

/-- The tokens of the two sequences laid end to end. -/
theorem flat_at (x : S2x8192x1024.Idx → EReal) (n : Fin 16384) (k : Fin 1024) :
    shapeCast S16384x1024 x shapeCasts_S2x8192x1024_S16384x1024 (ix2 n k) = rd3 x (n / 8192) (n % 8192) k := by
  have e : rd3 x (n / 8192) (n % 8192) k = x (ix3 (⟨n / 8192, by omega⟩ : Fin 2) (⟨n % 8192, by omega⟩ : Fin 8192) k) :=
    (rd3_eq x (⟨n / 8192, by omega⟩ : Fin 2) (⟨n % 8192, by omega⟩ : Fin 8192) k).symm
  rw [e]
  pointwise

/-- The sinks as a vector. -/
theorem vec_at (x : S1x8.Idx → EReal) (h : Fin 8) : shapeCast S8 x shapeCasts_S1x8_S8 (ix1 h) = rd2 x 0 h := by
  rw [show rd2 x 0 h = x (ix2 (0 : Fin 1) h) from (rd2_eq x (0 : Fin 1) h).symm]
  pointwise

/-- The tokens, one row each. -/
theorem V35 (n : Fin 16384) (k : Fin 1024) : V m c main_v35 (ix2 n k) = (inpK m c).X n k := by
  have v : V m c main_v35 = shapeCast S16384x1024 (m ((c : Thread nD τ).loc main_arg0)) shapeCasts_S2x8192x1024_S16384x1024 := by
    after_reads_simp
    rfl
  rw [v]
  exact flat_at _ n k

/-- The sinks. -/
theorem V36 (h : Fin 8) : V m c main_v36 (ix1 h) = (inpK m c).Sk h := by
  have v : V m c main_v36 = shapeCast S8 (m ((c : Thread nD τ).loc main_arg4)) shapeCasts_S1x8_S8 := by
    after_reads_simp
    rfl
  rw [v]
  exact vec_at _ h

/-- A weight with its leading axis of one dropped and its elements rounded, read at an index. -/
theorem drop_at {A B : ℕ} (w : (⟨3, ![1, A, B]⟩ : Shape).Idx → EReal) (h : (⟨3, ![1, A, B]⟩ : Shape).ShapeCasts ⟨2, ![A, B]⟩) (i : Fin A) (j : Fin B) :
    shapeCast (⟨2, ![A, B]⟩ : Shape) w h (ix2 i j) = rd3 w 0 i j := by
  rw [show rd3 w 0 i j = w (ix3 (0 : Fin 1) i j) from (rd3_eq w (0 : Fin 1) i j).symm]
  exact ValueIdx.shapeCast_1ab_ab_apply w h i j

/-- The combined projection's weights. -/
theorem V38 (k : Fin 1024) (d : Fin 2304) : V m c main_v38 (ix2 k d) = (inpK m c).W k d := by
  have v : V m c main_v38 = shapeCast S1024x2304 (m ((c : Thread nD τ).loc main_arg2)) shapeCasts_S1x1024x2304_S1024x2304 := by
    after_reads_simp
    rfl
  rw [v]
  exact drop_at _ _ k d

/-- The convolution's weights. -/
theorem V39 (k : Fin 3) (d : Fin 512) : V m c main_v39 (ix2 k d) = (inpK m c).CW k d := by
  have v : V m c main_v39 = shapeCast S3x512 (m ((c : Thread nD τ).loc main_arg5)) shapeCasts_S1x3x512_S3x512 := by
    after_reads_simp
    rfl
  rw [v]
  exact drop_at _ _ k d

/-- The output projection's weights. -/
theorem V41 (k : Fin 1024) (d : Fin 1024) : V m c main_v41 (ix2 k d) = (inpK m c).WO k d := by
  have v : V m c main_v41 = shapeCast S1024x1024 (m ((c : Thread nD τ).loc main_arg6)) shapeCasts_S1x1024x1024_S1024x1024 := by
    after_reads_simp
    rfl
  rw [v]
  exact drop_at _ _ k d

/-- The query projection's weights. -/
theorem V43 (k : Fin 1024) (d : Fin 2048) : V m c main_v43 (ix2 k d) = (inpK m c).WP k d := by
  have v : V m c main_v43 = shapeCast S1024x2048 (m ((c : Thread nD τ).loc main_arg10)) shapeCasts_S1x1024x2048_S1024x2048 := by
    after_reads_simp
    rfl
  rw [v]
  exact drop_at _ _ k d

/-- The first sub-key table. -/
theorem V45 (k : Fin 128) (d : Fin 128) : V m c main_v45 (ix2 k d) = (inpK m c).K1 k d := by
  have v : V m c main_v45 = shapeCast S128x128 (m ((c : Thread nD τ).loc main_arg11)) shapeCasts_S1x128x128_S128x128 := by
    after_reads_simp
    rfl
  rw [v]
  exact drop_at _ _ k d

/-- The second sub-key table. -/
theorem V47 (k : Fin 128) (d : Fin 128) : V m c main_v47 (ix2 k d) = (inpK m c).K2 k d := by
  have v : V m c main_v47 = shapeCast S128x128 (m ((c : Thread nD τ).loc main_arg12)) shapeCasts_S1x128x128_S128x128 := by
    after_reads_simp
    rfl
  rw [v]
  exact drop_at _ _ k d

/-- A row vector the call takes as launched. -/
theorem row_at {n : ℕ} (w : (⟨2, ![1, n]⟩ : Shape).Idx → EReal) (i : Fin n) : w (ix2 0 i) = rd2 w 0 i := rd2_eq w (0 : Fin 1) i

end Cert.Front.Tile
end
-- ==== Proof.Open.lean ====
/-
  The generated runs of the body are the body of `Tile`, read over the point's buffers.
-/
module

public import proofs.«01_k».proof.Proof.Body
public import proofs.«01_k».proof.Proof.Gen.KernelIdeal.Frame

@[expose] public section
set_option maxRecDepth 16384
noncomputable section
namespace Cert.Front.Tile
open Cert.KernelIdeal Cert.KernelIdeal.Gen Idealize.ShloMosaic Idealize.ShloMosaic.TcCoe Idealize.SL.Sem

variable {F : FTy → Type} [FloatOps F]
variable (c : Dev nD) (i : grid0.Coords) (arg1 : Memref sig .tc .smem S8 .f32) (harg1 : arg1.IsWhole) (arg2 : Memref sig .tc .vmem S256x1024 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1024x2304 .bf16) (harg6 : arg6.IsWhole) (arg7 : Memref sig .tc .vmem S1x2304 .f32) (harg7 : arg7.IsWhole) (arg8 : Memref sig .tc .vmem S3x512 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x2048 .bf16) (harg13 : arg13.IsWhole) (arg14 : Memref sig .tc .vmem S128x128 .bf16) (harg14 : arg14.IsWhole) (arg15 : Memref sig .tc .vmem S128x128 .bf16) (harg15 : arg15.IsWhole) (arg16 : Memref sig .tc .vmem S256x1024 .f32) (harg16 : arg16.IsWhole) (arg17 : Memref sig .tc .vmem S1024x256 .bf16) (harg17 : arg17.IsWhole) (arg18 : Memref sig .tc .vmem S8x128x256 .f32) (harg18 : arg18.IsWhole) (arg19 : Memref sig .tc .vmem S8x128x256 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S264x512 .f32) (harg22 : arg22.IsWhole) (arg23 : Memref sig .tc .vmem S4x384x128 .bf16) (harg23 : arg23.IsWhole) (arg24 : Memref sig .tc .vmem S4x384x128 .bf16) (harg24 : arg24.IsWhole) (arg25 : Memref sig .tc .vmem S256x1024 .bf16) (harg25 : arg25.IsWhole)
variable (x0 : Vec F S8 .f32) (x1 : Vec F S256x1024 .f32) (x2 : Vec F S256x128 .f32) (x3 : Vec F S256x128 .f32) (x4 : Vec F S256x128 .f32) (x5 : Vec F S1024x2304 .bf16) (x6 : Vec F S1x2304 .f32) (x7 : Vec F S3x512 .f32) (x8 : Vec F S1024x1024 .bf16) (x9 : Vec F S1x1024 .f32) (x10 : Vec F S1x1024 .f32) (x11 : Vec F S1x1024 .f32) (x12 : Vec F S1024x2048 .bf16) (x13 : Vec F S128x128 .bf16) (x14 : Vec F S128x128 .bf16) (xs0 : Vec F S384x128 .f32) (xs1 : Vec F S384x128 .f32) (xs2 : Vec F S264x512 .f32)

/-- What a sequence's first point finds: the carried rows cleared. -/
def envA : Env F where
  i := BitVec.ofNat 32 (i 0).val
  x0 := arg1.view.read (Elt F) (harg1.unread x0)
  x1 := arg2.view.read (Elt F) (harg2.unread x1)
  x2 := arg3.view.read (Elt F) (harg3.unread x2)
  x3 := arg4.view.read (Elt F) (harg4.unread x3)
  x4 := arg5.view.read (Elt F) (harg5.unread x4)
  x5 := arg6.view.read (Elt F) (harg6.unread x5)
  x6 := arg7.view.read (Elt F) (harg7.unread x6)
  x7 := arg8.view.read (Elt F) (harg8.unread x7)
  x8 := arg9.view.read (Elt F) (harg9.unread x8)
  x9 := arg10.view.read (Elt F) (harg10.unread x9)
  x10 := arg11.view.read (Elt F) (harg11.unread x10)
  x11 := arg12.view.read (Elt F) (harg12.unread x11)
  x12 := arg13.view.read (Elt F) (harg13.unread x12)
  x13 := arg14.view.read (Elt F) (harg14.unread x13)
  x14 := arg15.view.read (Elt F) (harg15.unread x14)
  rK := fun L => arg20.view.read (Elt F) (arg20.view.writes (Elt F) arg20.view.junk (L ++ [⟨Rect.unit ![0, 0] S128x128.size inb_S384x128_S128x128_0_0, k0_pay2⟩]))
  rV := fun L => arg21.view.read (Elt F) (arg21.view.writes (Elt F) arg21.view.junk (L ++ [⟨Rect.unit ![0, 0] S128x128.size inb_S384x128_S128x128_0_0, k0_pay3⟩]))
  rU := fun L => arg22.view.read (Elt F) (arg22.view.writes (Elt F) arg22.view.junk (L ++ [⟨Rect.unit ![0, 0] S8x512.size inb_S264x512_S8x512_0_0, k0_pay4⟩]))
  cK := fun L => arg20.view.read (Elt F) (arg20.view.writes (Elt F) arg20.view.junk (L ++ [⟨Rect.unit ![0, 0] S128x128.size inb_S384x128_S128x128_0_0, k0_pay2⟩]))
  cV := fun L => arg21.view.read (Elt F) (arg21.view.writes (Elt F) arg21.view.junk (L ++ [⟨Rect.unit ![0, 0] S128x128.size inb_S384x128_S128x128_0_0, k0_pay3⟩]))
  cU := fun L => arg22.view.read (Elt F) (arg22.view.writes (Elt F) arg22.view.junk (L ++ [⟨Rect.unit ![0, 0] S8x512.size inb_S264x512_S8x512_0_0, k0_pay4⟩]))
  r3 := fun L => arg23.view.read (Elt F) (arg23.view.writes (Elt F) arg23.view.junk L)
  r4 := fun L => arg24.view.read (Elt F) (arg24.view.writes (Elt F) arg24.view.junk L)
  r5 := fun L => arg25.view.read (Elt F) (arg25.view.writes (Elt F) arg25.view.junk L)

/-- What any other point finds: the carried rows as the point before left them. -/
def envB : Env F where
  i := BitVec.ofNat 32 (i 0).val
  x0 := arg1.view.read (Elt F) (harg1.unread x0)
  x1 := arg2.view.read (Elt F) (harg2.unread x1)
  x2 := arg3.view.read (Elt F) (harg3.unread x2)
  x3 := arg4.view.read (Elt F) (harg4.unread x3)
  x4 := arg5.view.read (Elt F) (harg5.unread x4)
  x5 := arg6.view.read (Elt F) (harg6.unread x5)
  x6 := arg7.view.read (Elt F) (harg7.unread x6)
  x7 := arg8.view.read (Elt F) (harg8.unread x7)
  x8 := arg9.view.read (Elt F) (harg9.unread x8)
  x9 := arg10.view.read (Elt F) (harg10.unread x9)
  x10 := arg11.view.read (Elt F) (harg11.unread x10)
  x11 := arg12.view.read (Elt F) (harg12.unread x11)
  x12 := arg13.view.read (Elt F) (harg13.unread x12)
  x13 := arg14.view.read (Elt F) (harg14.unread x13)
  x14 := arg15.view.read (Elt F) (harg15.unread x14)
  rK := fun L => arg20.view.read (Elt F) (arg20.view.writes (Elt F) (harg20.unread xs0) L)
  rV := fun L => arg21.view.read (Elt F) (arg21.view.writes (Elt F) (harg21.unread xs1) L)
  rU := fun L => arg22.view.read (Elt F) (arg22.view.writes (Elt F) (harg22.unread xs2) L)
  cK := fun L => arg20.view.read (Elt F) (arg20.view.writes (Elt F) arg20.view.junk L)
  cV := fun L => arg21.view.read (Elt F) (arg21.view.writes (Elt F) arg21.view.junk L)
  cU := fun L => arg22.view.read (Elt F) (arg22.view.writes (Elt F) arg22.view.junk L)
  r3 := fun L => arg23.view.read (Elt F) (arg23.view.writes (Elt F) arg23.view.junk L)
  r4 := fun L => arg24.view.read (Elt F) (arg24.view.writes (Elt F) arg24.view.junk L)
  r5 := fun L => arg25.view.read (Elt F) (arg25.view.writes (Elt F) arg25.view.junk L)

/-- The run's stores into buffer `15` are the body's. -/
theorem runB_15 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2).1 =
      (fun E : Env F => [⟨Rect.unit ![0, 0] S256x1024.size inb_S256x1024_S256x1024_0_0, E.o15⟩]) (envB i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 harg20 arg21 harg21 arg22 harg22 arg23 arg24 arg25 x0 x1 x2 x3 x4 x5 x6 x7 x8 x9 x10 x11 x12 x13 x14 xs0 xs1 xs2) := by
  unfold kernelRun0_B
  sl_kernel_rfl

/-- The run's stores into buffer `16` are the body's. -/
theorem runB_16 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2).2.1 =
      (fun E : Env F => [⟨Rect.unit ![0, 0] S1024x256.size inb_S1024x256_S1024x256_0_0, E.o16⟩]) (envB i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 harg20 arg21 harg21 arg22 harg22 arg23 arg24 arg25 x0 x1 x2 x3 x4 x5 x6 x7 x8 x9 x10 x11 x12 x13 x14 xs0 xs1 xs2) := by
  unfold kernelRun0_B
  sl_kernel_rfl

/-- The run's stores into buffer `17` are the body's. -/
theorem runB_17 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2).2.2.1 =
      (fun E : Env F => E.o17) (envB i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 harg20 arg21 harg21 arg22 harg22 arg23 arg24 arg25 x0 x1 x2 x3 x4 x5 x6 x7 x8 x9 x10 x11 x12 x13 x14 xs0 xs1 xs2) := by
  unfold kernelRun0_B
  sl_kernel_rfl

/-- The run's stores into buffer `18` are the body's. -/
theorem runB_18 (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2).2.2.2.1 =
      (fun E : Env F => E.o18) (envB i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 harg20 arg21 harg21 arg22 harg22 arg23 arg24 arg25 x0 x1 x2 x3 x4 x5 x6 x7 x8 x9 x10 x11 x12 x13 x14 xs0 xs1 xs2) := by
  unfold kernelRun0_B
  sl_kernel_rfl

/-- The run's stores into buffer `k` are the body's. -/
theorem runB_k (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2).2.2.2.2.1 =
      (fun E : Env F => [E.ck, ⟨Rect.unit ![128, 0] S256x128.size inb_S384x128_S256x128_128_0, shapeCast S256x128 E.kn shapeCasts_S256x128_S256x128⟩]) (envB i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 harg20 arg21 harg21 arg22 harg22 arg23 arg24 arg25 x0 x1 x2 x3 x4 x5 x6 x7 x8 x9 x10 x11 x12 x13 x14 xs0 xs1 xs2) := by
  unfold kernelRun0_B
  sl_kernel_rfl

/-- The run's stores into buffer `v` are the body's. -/
theorem runB_v (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2).2.2.2.2.2.1 =
      (fun E : Env F => [E.cvl, ⟨Rect.unit ![128, 0] S256x128.size inb_S384x128_S256x128_128_0, shapeCast S256x128 E.vn shapeCasts_S256x128_S256x128⟩]) (envB i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 harg20 arg21 harg21 arg22 harg22 arg23 arg24 arg25 x0 x1 x2 x3 x4 x5 x6 x7 x8 x9 x10 x11 x12 x13 x14 xs0 xs1 xs2) := by
  unfold kernelRun0_B
  sl_kernel_rfl

/-- The run's stores into buffer `u` are the body's. -/
theorem runB_u (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2).2.2.2.2.2.2.1 =
      (fun E : Env F => [E.cu, ⟨Rect.unit ![8, 0] S256x512.size inb_S264x512_S256x512_8_0, shapeCast S256x512 E.un shapeCasts_S256x512_S256x512⟩]) (envB i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 harg20 arg21 harg21 arg22 harg22 arg23 arg24 arg25 x0 x1 x2 x3 x4 x5 x6 x7 x8 x9 x10 x11 x12 x13 x14 xs0 xs1 xs2) := by
  unfold kernelRun0_B
  sl_kernel_rfl

/-- The run's stores into buffer `15` are the body's. -/
theorem runA_15 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).1 =
      (fun E : Env F => [⟨Rect.unit ![0, 0] S256x1024.size inb_S256x1024_S256x1024_0_0, E.o15⟩]) (envA i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 arg21 arg22 arg23 arg24 arg25 x0 x1 x2 x3 x4 x5 x6 x7 x8 x9 x10 x11 x12 x13 x14) := by
  unfold kernelRun0_A
  sl_kernel_rfl

/-- The run's stores into buffer `16` are the body's. -/
theorem runA_16 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).2.1 =
      (fun E : Env F => [⟨Rect.unit ![0, 0] S1024x256.size inb_S1024x256_S1024x256_0_0, E.o16⟩]) (envA i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 arg21 arg22 arg23 arg24 arg25 x0 x1 x2 x3 x4 x5 x6 x7 x8 x9 x10 x11 x12 x13 x14) := by
  unfold kernelRun0_A
  sl_kernel_rfl

/-- The run's stores into buffer `17` are the body's. -/
theorem runA_17 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).2.2.1 =
      (fun E : Env F => E.o17) (envA i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 arg21 arg22 arg23 arg24 arg25 x0 x1 x2 x3 x4 x5 x6 x7 x8 x9 x10 x11 x12 x13 x14) := by
  unfold kernelRun0_A
  sl_kernel_rfl

/-- The run's stores into buffer `18` are the body's. -/
theorem runA_18 (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).2.2.2.1 =
      (fun E : Env F => E.o18) (envA i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 arg21 arg22 arg23 arg24 arg25 x0 x1 x2 x3 x4 x5 x6 x7 x8 x9 x10 x11 x12 x13 x14) := by
  unfold kernelRun0_A
  sl_kernel_rfl

/-- The run's stores into buffer `k` are the body's. -/
theorem runA_k (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).2.2.2.2.1 =
      (fun E : Env F => [E.ck, ⟨Rect.unit ![128, 0] S256x128.size inb_S384x128_S256x128_128_0, shapeCast S256x128 E.kn shapeCasts_S256x128_S256x128⟩, ⟨Rect.unit ![0, 0] S128x128.size inb_S384x128_S128x128_0_0, k0_pay2⟩]) (envA i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 arg21 arg22 arg23 arg24 arg25 x0 x1 x2 x3 x4 x5 x6 x7 x8 x9 x10 x11 x12 x13 x14) := by
  unfold kernelRun0_A
  sl_kernel_rfl

/-- The run's stores into buffer `v` are the body's. -/
theorem runA_v (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).2.2.2.2.2.1 =
      (fun E : Env F => [E.cvl, ⟨Rect.unit ![128, 0] S256x128.size inb_S384x128_S256x128_128_0, shapeCast S256x128 E.vn shapeCasts_S256x128_S256x128⟩, ⟨Rect.unit ![0, 0] S128x128.size inb_S384x128_S128x128_0_0, k0_pay3⟩]) (envA i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 arg21 arg22 arg23 arg24 arg25 x0 x1 x2 x3 x4 x5 x6 x7 x8 x9 x10 x11 x12 x13 x14) := by
  unfold kernelRun0_A
  sl_kernel_rfl

/-- The run's stores into buffer `u` are the body's. -/
theorem runA_u (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).2.2.2.2.2.2.1 =
      (fun E : Env F => [E.cu, ⟨Rect.unit ![8, 0] S256x512.size inb_S264x512_S256x512_8_0, shapeCast S256x512 E.un shapeCasts_S256x512_S256x512⟩, ⟨Rect.unit ![0, 0] S8x512.size inb_S264x512_S8x512_0_0, k0_pay4⟩]) (envA i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 arg21 arg22 arg23 arg24 arg25 x0 x1 x2 x3 x4 x5 x6 x7 x8 x9 x10 x11 x12 x13 x14) := by
  unfold kernelRun0_A
  sl_kernel_rfl

end Cert.Front.Tile
end
-- ==== Proof.TileOut.lean ====
/-
  The tile's results: attention and convolution, the layer norm, the scores, and the rows it carries on.
-/
module

public import proofs.«01_k».proof.Proof.TileVal

@[expose] public section
set_option maxRecDepth 16384
noncomputable section
namespace Cert.Front.Tile
open Cert.KernelIdeal Cert.KernelIdeal.Gen Idealize.ShloMosaic Idealize.ShloMosaic.TcCoe Idealize.SL.Sem

/-- Variant `v` holds key head `v / 2` in the low lanes when `v` is even, in the high lanes when `v` is odd. -/
def varV (T : Vec Ideal S384x128 .f32) (i l v : ℕ) : EReal :=
  if (if v % 2 = 1 then 64 ≤ l else l < 64) then rd2 T i (64 * (v / 2) + l % 64) else 0

/-- A slab read at a natural lane. -/
theorem kv_rd (T : Vec Ideal S384x128 .f32) (i : Fin 384) (l : Fin 128) (e : ℕ) (h : l.val = e) : T (ix2 i l) = rd2 T i e :=
  h ▸ rd2_eq _ _ _

/-- The stack of four placings, at an index. -/
theorem vars_at (T : Vec Ideal S384x128 .f32) (v : Fin 4) (i : Fin 384) (l : Fin 128) :
    View.canon (Env.vars T) (ix3 v i l) = varV T i l v := by
  unfold Env.vars
  refine canon3 (e := .bf16) (varV T i l) _ _ _ v i l (fun _ => ?_) fun h3 => canon3 (e := .bf16) (varV T i l) _ _ _ v i l (fun _ => ?_) fun h2 =>
    canon3 (e := .bf16) (varV T i l) _ _ _ v i l (fun _ => ?_) fun h1 => canon3 (e := .bf16) (varV T i l) _ _ _ v i l (fun _ => ?_) fun h0 => ?_
  · rw [stk_at, kv3_at]
    unfold varV
    by_cases h : l.val < 64
    · simp [h]
    · simp only [h, if_false, Nat.reduceMod, if_true, Nat.le_of_not_lt h]
      exact kv_rd T i l _ (by omega)
  · rw [stk_at, kv2_at]
    unfold varV
    by_cases h : l.val < 64
    · simp only [h, if_true, Nat.reduceMod, OfNat.zero_ne_ofNat, if_false, zero_ne_one]
      exact kv_rd T i _ _ (by simp only; omega)
    · simp [h]
  · rw [stk_at, kv1_at]
    unfold varV
    by_cases h : l.val < 64
    · simp [h]
    · simp only [h, if_false, Nat.reduceMod, if_true, Nat.le_of_not_lt h]
      exact kv_rd T i _ _ (by simp only; omega)
  · rw [stk_at, kv0_at]
    unfold varV
    by_cases h : l.val < 64
    · simp only [h, if_true, Nat.reduceMod, if_false, zero_ne_one]
      exact kv_rd T i l _ (by omega)
    · simp [h]
  · exact absurd v.2 (by omega)

variable {a : In} {t : ℕ} {E : Env Ideal} (ok : Ok a t E)
include ok

/-- A head's sink. -/
theorem snk_at (h : ℕ) (hs) (h8 : h < 8) : E.snk h hs = a.Sk h := by
  unfold Env.snk
  refine Eq.trans (congrArg E.x0 (funext fun x => Fin.ext ?_)) (ok.h0 ⟨h, h8⟩)
  rw [Rect.idx_unit_val]
  fin_cases x
  rfl

/-- The stacked keys at an index. -/
theorem kvar_at (v : Fin 4) (i : Fin 384) (l : Fin 128) : E.kvar (ix3 v i l) = varV E.kb i l v := by
  unfold Env.kvar
  rw [ok.r3, vars_at]
  congr 1
  exact View.ld_unit_lit _ _ (by decide)

/-- The stacked values at an index. -/
theorem vvar_at (v : Fin 4) (i : Fin 384) (l : Fin 128) : E.vvar (ix3 v i l) = varV E.vb i l v := by
  unfold Env.vvar
  rw [ok.r4, vars_at]
  congr 1
  exact View.ld_unit_lit _ _ (by decide)

/-- The window of block `b` in a key head, read off the tile's rows. -/
theorem kwin_at (b g : ℕ) (hb : b < 2) (hg : g < 2) (v o : ℕ) (hv : v / 2 = g) (ho : o = 128 * b) (h)
    (r : Fin 128) (j : Fin 256) (d : Fin 128) : Env.win E.kvar v o h (ix3 0 j d)
      = if (if v % 2 = 1 then 64 ≤ d.val else d.val < 64) then kc a (256 * t + 128 * b + r) g j (d.val % 64) else 0 := by
  refine (ld3 E.kvar h 0 j d).trans ((kvar_at ok _ _ _).trans ?_)
  unfold varV
  simp only [Nat.zero_add, Nat.add_zero, Fin.val_zero]
  refine if_congr Iff.rfl ?_ rfl
  · have e := kb_at ok (⟨o + j, by omega⟩ : Fin 384) (⟨64 * (v / 2) + d.val % 64, by omega⟩ : Fin 128)
    refine (((rd2_eq E.kb (⟨o + j, by omega⟩ : Fin 384) (⟨64 * (v / 2) + d.val % 64, by omega⟩ : Fin 128)).symm.trans e)).trans ?_
    unfold kc
    have c : ((256 * t + 128 * b + r) % 8192 < 128 ∧ j.val < 128) ↔ (t % 32 = 0 ∧ o + j.val < 128) := by
      have := r.2; have := j.2
      omega
    simp only [c]
    refine if_congr Iff.rfl rfl ?_
    have e1 : 256 * t + (o + j.val) - 128 = 256 * t + 128 * b + r - (256 * t + 128 * b + r) % 128 + j - 128 := by
      have := r.2
      omega
    have e2 : (64 * (v / 2) + d.val % 64) / 64 = g := by omega
    have e3 : (64 * (v / 2) + d.val % 64) % 64 = d.val % 64 := by omega
    rw [e1, e2, e3]

/-- A block's window of one placing of the values: one half of it holds the specification's values, the other is zero. -/
theorem vwin_at (b g : ℕ) (hb : b < 2) (hg : g < 2) (v o : ℕ) (hv : v / 2 = g) (ho : o = 128 * b) (h)
    (r : Fin 128) (j : Fin 256) (d : Fin 128) : Env.win E.vvar v o h (ix3 0 j d)
      = if (if v % 2 = 1 then 64 ≤ d.val else d.val < 64) then vc a (256 * t + 128 * b + r) g j (d.val % 64) else 0 := by
  refine (ld3 E.vvar h 0 j d).trans ((vvar_at ok _ _ _).trans ?_)
  unfold varV
  simp only [Nat.zero_add, Nat.add_zero, Fin.val_zero]
  refine if_congr Iff.rfl ?_ rfl
  · have e := vb_at ok (⟨o + j, by omega⟩ : Fin 384) (⟨64 * (v / 2) + d.val % 64, by omega⟩ : Fin 128)
    refine (((rd2_eq E.vb (⟨o + j, by omega⟩ : Fin 384) (⟨64 * (v / 2) + d.val % 64, by omega⟩ : Fin 128)).symm.trans e)).trans ?_
    unfold vc
    have c : ((256 * t + 128 * b + r) % 8192 < 128 ∧ j.val < 128) ↔ (t % 32 = 0 ∧ o + j.val < 128) := by
      have := r.2; have := j.2
      omega
    simp only [c]
    refine if_congr Iff.rfl rfl ?_
    have e1 : 256 * t + (o + j.val) - 128 = 256 * t + 128 * b + r - (256 * t + 128 * b + r) % 128 + j - 128 := by
      have := r.2
      omega
    rw [e1, hv]

/-- The mask of block `b`. -/
theorem mask_at (b : ℕ) (hb : b < 2) (r : Fin 128) (j : Fin 256) (x y : EReal) :
    Scalar.select (msk (kmin E.i (BitVec.ofNat 32 b)) (ix2 r j)) x y = if vis (256 * t + 128 * b + r) j then x else y := by
  have ht := ok.ht
  rw [ok.hi]
  have e : kmin (BitVec.ofNat 32 t) (BitVec.ofNat 32 b) = BitVec.ofNat 32 (if t % 32 = 0 ∧ b = 0 then 128 else 0) := by
    interval_cases b
    · simpa using (kmin_at ⟨t, ht⟩).1
    · simpa using (kmin_at ⟨t, ht⟩).2
  rw [e, msk_at _ (by split <;> simp)]
  refine if_congr ?_ rfl rfl
  unfold vis
  have := r.2
  have := j.2
  split <;> omega

/-- The two heads of one block. -/
theorem blk_at (b p : ℕ) (hb : b < 2) (hp : p < 4) (q : FVec Ideal S128x128 .bf16)
    (hq : ∀ r d : Fin 128, q (ix2 r d) = rope a (256 * t + 128 * b + r) (128 * p + 64 * (d / 64)) (d % 64) * scale)
    (v o h : ℕ) (hv : v = 2 * (p / 2)) (ho : o = 128 * b) (hh : h = 2 * p) (h0 h1 s0 s1) (r l : Fin 128) :
    E.blk (BitVec.ofNat 32 b) q v o h h0 h1 s0 s1 (ix2 r l) = att a (256 * t + 128 * b + r) (h + l.val / 64) (l.val % 64) := by
  unfold Env.blk
  refine two_eq (a := a) (n0 := 256 * t + 128 * b) (h := h) (fun r j x y => mask_at ok b hb r j x y) ?_ ?_ r l
  · refine ⟨fun r d hd => ?_, fun r j d => ?_, fun r j d => ?_, snk_at ok h s0 (by omega)⟩
    · rw [hq]
      have hd' : d.val < 64 := by simpa using hd
      have e : 128 * p + 64 * (d.val / 64) = 64 * h := by omega
      rw [e]
    · refine (kwin_at ok b (h / 4) hb (by omega) v o (by omega) ho h0 r j d).trans ?_
      have e : v % 2 = 0 := by omega
      simp [e]
    · refine (vwin_at ok b (h / 4) hb (by omega) v o (by omega) ho h0 r j d).trans ?_
      have e : v % 2 = 0 := by omega
      simp [e]
  · refine ⟨fun r d hd => ?_, fun r j d => ?_, fun r j d => ?_, snk_at ok (h + 1) s1 (by omega)⟩
    · rw [hq]
      have hd' : 64 ≤ d.val := by simpa using hd
      have e : 128 * p + 64 * (d.val / 64) = 64 * (h + 1) := by omega
      rw [e]
    · refine (kwin_at ok b ((h + 1) / 4) hb (by omega) (v + 1) o (by omega) ho h1 r j d).trans ?_
      have e : (v + 1) % 2 = 1 := by omega
      simp [e]
    · refine (vwin_at ok b ((h + 1) / 4) hb (by omega) (v + 1) o (by omega) ho h1 r j d).trans ?_
      have e : (v + 1) % 2 = 1 := by omega
      simp [e]

/-- The mixer's attention channels, from a block's store. -/
theorem piece_at (b p : ℕ) (hb : b < 2) (hp : p < 4) (q : FVec Ideal S128x128 .bf16)
    (hq : ∀ r d : Fin 128, q (ix2 r d) = rope a (256 * t + 128 * b + r) (128 * p + 64 * (d / 64)) (d % 64) * scale)
    (v o h P : ℕ) (hv : v = 2 * (p / 2)) (ho : o = 128 * b) (hh : h = 2 * p) (hP : P = 128 * p) (h0 h1 s0 s1) (r l : Fin 128) :
    E.blk (BitVec.ofNat 32 b) q v o h h0 h1 s0 s1 (ix2 r l) = yy a (256 * t + (o + r)) (P + l) := by
  rw [blk_at ok b p hb hp q hq v o h hv ho hh h0 h1 s0 s1 r l]
  unfold yy
  have e0 : P + l.val < 512 := by omega
  have e1 : 256 * t + (o + r.val) = 256 * t + 128 * b + r := by omega
  have e2 : (P + l.val) / 64 = h + l.val / 64 := by omega
  have e3 : (P + l.val) % 64 = l.val % 64 := by omega
  rw [if_pos e0, e1, e2, e3]

/-- The first block's queries: rotated and scaled. -/
theorem qlo_eq (p o : ℕ) (ho : o = 128 * p) (hw hb) (r d : Fin 128) : qlo (E.qq o hw hb) (ix2 r d)
    = rope a (256 * t + 128 * 0 + r) (128 * p + 64 * (d / 64)) (d % 64) * scale := by
  rw [qlo_at, qq_at ok, ho]
  simp only [Nat.mul_zero, Nat.add_zero]

/-- The second block's queries: rotated and scaled. -/
theorem qhi_eq (p o : ℕ) (ho : o = 128 * p) (hw hb) (r d : Fin 128) : qhi (E.qq o hw hb) (ix2 r d)
    = rope a (256 * t + 128 * 1 + r) (128 * p + 64 * (d / 64)) (d % 64) * scale := by
  rw [qhi_at, qq_at ok, ho]
  congr 2
  simp only
  omega

/-- The convolution. -/
theorem cvn_at (r : Fin 256) (c : Fin 512) : E.cvn (ix2 r c) = cv a (256 * t + r) c := by
  unfold Env.cvn
  rw [cvo_at, p5_at ok, un_at ok]
  have u1 : View.ld E.ub (Rect.unit ![7, 0] S256x512.size inb_S264x512_S256x512_7_0) (ix2 r c) = ub a (256 * t + r) 1 c := by
    refine (ld2 E.ub inb_S264x512_S256x512_7_0 r c).trans ((ub_at ok _ _).trans ?_)
    unfold ub
    have := r.2
    refine if_congr ?_ rfl ?_
    · simp only
      omega
    · congr 1 <;> simp only <;> omega
  have u2 : View.ld E.ub (Rect.unit ![6, 0] S256x512.size inb_S264x512_S256x512_6_0) (ix2 r c) = ub a (256 * t + r) 2 c := by
    refine (ld2 E.ub inb_S264x512_S256x512_6_0 r c).trans ((ub_at ok _ _).trans ?_)
    unfold ub
    have := r.2
    refine if_congr ?_ rfl ?_
    · simp only
      omega
    · congr 1 <;> simp only <;> omega
  have u0 : uu a (256 * t + r) c = ub a (256 * t + r) 0 c := by
    unfold ub
    rw [if_neg (Nat.not_lt_zero _), Nat.sub_zero]
  have w (j : Fin 3) : View.ld E.x7 (Rect.unit ![0, 0] S3x512.size inb_S3x512_S3x512_0_0) (ix2 j c) = a.CW j c := by
    rw [View.ld_unit_lit _ _ (by decide)]
    exact ok.h7 j c
  rw [u1, u2, u0, w, w, w]
  unfold cv
  rw [mul_comm (ub a (256 * t + r) 2 c), mul_comm (ub a (256 * t + r) 1 c), mul_comm (ub a (256 * t + r) 0 c)]
  rfl

/-- The mixer's channels of the tile. -/
theorem y_at (r : Fin 256) (c : Fin 1024) : E.y (ix2 r c) = yy a (256 * t + r) c := by
  unfold Env.y
  rw [View.ld_unit_lit _ _ (by decide), ok.r5]
  unfold Env.yl
  have := r.2
  have := c.2
  refine canon2 (e := .bf16) (fun i j => yy a (256 * t + i) j) _ _ _ r c (fun r l _ _ => ?_) fun n0 => ?_
  · refine (cvn_at ok r l).trans ?_
    unfold yy
    simp only [Nat.zero_add]
    rw [if_neg (by omega), Nat.add_sub_cancel_left]
  refine canon2 (e := .bf16) (fun i j => yy a (256 * t + i) j) _ _ _ r c (fun r l _ _ =>
    piece_at ok 1 3 (by norm_num) (by norm_num) _ (qhi_eq ok 3 384 rfl _ _) 2 128 6 384 rfl rfl rfl rfl _ _ _ _ r l) fun n1 => ?_
  refine canon2 (e := .bf16) (fun i j => yy a (256 * t + i) j) _ _ _ r c (fun r l _ _ =>
    piece_at ok 0 3 (by norm_num) (by norm_num) _ (qlo_eq ok 3 384 rfl _ _) 2 0 6 384 rfl rfl rfl rfl _ _ _ _ r l) fun n2 => ?_
  refine canon2 (e := .bf16) (fun i j => yy a (256 * t + i) j) _ _ _ r c (fun r l _ _ =>
    piece_at ok 1 2 (by norm_num) (by norm_num) _ (qhi_eq ok 2 256 rfl _ _) 2 128 4 256 rfl rfl rfl rfl _ _ _ _ r l) fun n3 => ?_
  refine canon2 (e := .bf16) (fun i j => yy a (256 * t + i) j) _ _ _ r c (fun r l _ _ =>
    piece_at ok 0 2 (by norm_num) (by norm_num) _ (qlo_eq ok 2 256 rfl _ _) 2 0 4 256 rfl rfl rfl rfl _ _ _ _ r l) fun n4 => ?_
  refine canon2 (e := .bf16) (fun i j => yy a (256 * t + i) j) _ _ _ r c (fun r l _ _ =>
    piece_at ok 1 1 (by norm_num) (by norm_num) _ (qhi_eq ok 1 128 rfl _ _) 0 128 2 128 rfl rfl rfl rfl _ _ _ _ r l) fun n5 => ?_
  refine canon2 (e := .bf16) (fun i j => yy a (256 * t + i) j) _ _ _ r c (fun r l _ _ =>
    piece_at ok 0 1 (by norm_num) (by norm_num) _ (qlo_eq ok 1 128 rfl _ _) 0 0 2 128 rfl rfl rfl rfl _ _ _ _ r l) fun n6 => ?_
  refine canon2 (e := .bf16) (fun i j => yy a (256 * t + i) j) _ _ _ r c (fun r l _ _ =>
    piece_at ok 1 0 (by norm_num) (by norm_num) _ (qhi_eq ok 0 0 rfl _ _) 0 128 0 0 rfl rfl rfl rfl _ _ _ _ r l) fun n7 => ?_
  refine canon2 (e := .bf16) (fun i j => yy a (256 * t + i) j) _ _ _ r c (fun r l _ _ =>
    piece_at ok 0 0 (by norm_num) (by norm_num) _ (qlo_eq ok 0 0 rfl _ _) 0 0 0 0 rfl rfl rfl rfl _ _ _ _ r l) fun n8 => ?_
  exfalso
  omega

/-- The residual sum of the tile. -/
theorem zz_at (r : Fin 256) (c : Fin 1024) : E.z (ix2 r c) = zz a (256 * t + r) c := by
  unfold Env.z
  rw [z_at, x_at ok, View.ld_unit_lit _ _ (by decide), View.ld_unit_lit _ _ (by decide), ok.h9]
  simp only [y_at ok, ok.h8]
  unfold zz
  rfl

/-- The residual sum of the tile less its mean. -/
theorem ctr_at (r : Fin 256) (c : Fin 1024) : ctr E.z r c = xc a (256 * t + r) c := by
  unfold ctr xc
  simp only [zz_at ok]

/-- The layer norm. -/
theorem o15_at (r : Fin 256) (c : Fin 1024) : E.o15 (ix2 r c) = hh a (256 * t + r) c := by
  unfold Env.o15 Env.g Env.be
  rw [ln_at, View.ld_unit_lit _ _ (by decide), View.ld_unit_lit _ _ (by decide), ok.h10, ok.h11]
  simp only [ctr_at ok]
  unfold hh
  rfl

/-- The tile's second result. -/
theorem o16_at (r : Fin 256) (c : Fin 1024) : E.o16 (ix2 c r) = hh a (256 * t + r) c :=
  (lnT_at _ _ _ r c).trans (o15_at ok r c)

/-- The queries of the product-key memory. -/
theorem qpe_at (r : Fin 256) (e : Fin 2048) : E.qp (ix2 r e) = qp a (256 * t + r) e := by
  unfold Env.qp
  rw [qp_at, View.ld_unit_lit _ _ (by decide)]
  unfold qp
  exact Finset.sum_congr rfl fun k _ => congrArg₂ (· * ·) (o15_at ok r k) (ok.h12 k e)

/-- The first sub-key table. -/
theorem k1_at (i d : Fin 128) : E.k1 (ix2 i d) = a.K1 i d := by
  rw [← ok.h13]
  unfold Env.k1
  pointwise

/-- The second sub-key table. -/
theorem k2_at (i d : Fin 128) : E.k2 (ix2 i d) = a.K2 i d := by
  rw [← ok.h14]
  unfold Env.k2
  pointwise

/-- A head's scores of the first table, and of the second. -/
theorem pks1 (h o : ℕ) (h8 : h < 8) (ho : o = 256 * h) (hs) (i : Fin 128) (r : Fin 256) :
    pks o hs E.qp E.k1 (ix3 0 i r) = sc1 a h i (256 * t + r) := by
  subst ho
  rw [pks_at _ hs (by omega)]
  unfold sc1
  refine Finset.sum_congr rfl fun d _ => ?_
  rw [k1_at ok, qpe_at ok, mul_comm (G := EReal)]

@[inherit_doc pks1] theorem pks2 (h o : ℕ) (h8 : h < 8) (ho : o = 256 * h + 128) (hs) (i : Fin 128) (r : Fin 256) :
    pks o hs E.qp E.k2 (ix3 0 i r) = sc2 a h i (256 * t + r) := by
  subst ho
  rw [pks_at _ hs (by omega)]
  unfold sc2
  refine Finset.sum_congr rfl fun d _ => ?_
  rw [k2_at ok, qpe_at ok, mul_comm (G := EReal)]
  simp only [Nat.add_assoc]

/-- The tile's third result. -/
theorem o17_at (h : Fin 8) (i : Fin 128) (r : Fin 256) : View.canon E.o17 (ix3 h i r) = sc1 a h i (256 * t + r) := by
  unfold Env.o17
  refine canon3 (e := .f32) (fun h => sc1 a h i (256 * t + r)) _ _ _ h i r (fun _ => pks1 ok 7 _ (by norm_num) rfl _ i r) fun n7 => ?_
  refine canon3 (e := .f32) (fun h => sc1 a h i (256 * t + r)) _ _ _ h i r (fun _ => pks1 ok 6 _ (by norm_num) rfl _ i r) fun n6 => ?_
  refine canon3 (e := .f32) (fun h => sc1 a h i (256 * t + r)) _ _ _ h i r (fun _ => pks1 ok 5 _ (by norm_num) rfl _ i r) fun n5 => ?_
  refine canon3 (e := .f32) (fun h => sc1 a h i (256 * t + r)) _ _ _ h i r (fun _ => pks1 ok 4 _ (by norm_num) rfl _ i r) fun n4 => ?_
  refine canon3 (e := .f32) (fun h => sc1 a h i (256 * t + r)) _ _ _ h i r (fun _ => pks1 ok 3 _ (by norm_num) rfl _ i r) fun n3 => ?_
  refine canon3 (e := .f32) (fun h => sc1 a h i (256 * t + r)) _ _ _ h i r (fun _ => pks1 ok 2 _ (by norm_num) rfl _ i r) fun n2 => ?_
  refine canon3 (e := .f32) (fun h => sc1 a h i (256 * t + r)) _ _ _ h i r (fun _ => pks1 ok 1 _ (by norm_num) rfl _ i r) fun n1 => ?_
  refine canon3 (e := .f32) (fun h => sc1 a h i (256 * t + r)) _ _ _ h i r (fun _ => pks1 ok 0 _ (by norm_num) rfl _ i r) fun n0 => ?_
  exact absurd h.2 (by omega)

/-- The tile's fourth result. -/
theorem o18_at (h : Fin 8) (i : Fin 128) (r : Fin 256) : View.canon E.o18 (ix3 h i r) = sc2 a h i (256 * t + r) := by
  unfold Env.o18
  refine canon3 (e := .f32) (fun h => sc2 a h i (256 * t + r)) _ _ _ h i r (fun _ => pks2 ok 7 _ (by norm_num) rfl _ i r) fun n7 => ?_
  refine canon3 (e := .f32) (fun h => sc2 a h i (256 * t + r)) _ _ _ h i r (fun _ => pks2 ok 6 _ (by norm_num) rfl _ i r) fun n6 => ?_
  refine canon3 (e := .f32) (fun h => sc2 a h i (256 * t + r)) _ _ _ h i r (fun _ => pks2 ok 5 _ (by norm_num) rfl _ i r) fun n5 => ?_
  refine canon3 (e := .f32) (fun h => sc2 a h i (256 * t + r)) _ _ _ h i r (fun _ => pks2 ok 4 _ (by norm_num) rfl _ i r) fun n4 => ?_
  refine canon3 (e := .f32) (fun h => sc2 a h i (256 * t + r)) _ _ _ h i r (fun _ => pks2 ok 3 _ (by norm_num) rfl _ i r) fun n3 => ?_
  refine canon3 (e := .f32) (fun h => sc2 a h i (256 * t + r)) _ _ _ h i r (fun _ => pks2 ok 2 _ (by norm_num) rfl _ i r) fun n2 => ?_
  refine canon3 (e := .f32) (fun h => sc2 a h i (256 * t + r)) _ _ _ h i r (fun _ => pks2 ok 1 _ (by norm_num) rfl _ i r) fun n1 => ?_
  refine canon3 (e := .f32) (fun h => sc2 a h i (256 * t + r)) _ _ _ h i r (fun _ => pks2 ok 0 _ (by norm_num) rfl _ i r) fun n0 => ?_
  exact absurd h.2 (by omega)

/-- What the tile carries on, whatever stores came before: its last rows. -/
theorem ck_at (L) (i : Fin 384) (hi : i.val < 128) (l : Fin 128) : View.canon (E.ck :: L) (ix2 i l)
    = rope a (256 * (t + 1) + i - 128) (512 + 64 * (l / 64)) (l % 64) := by
  unfold Env.ck
  refine canon2 (e := .f32) (fun i j => rope a (256 * (t + 1) + i - 128) (512 + 64 * (j / 64)) (j % 64)) _ _ _ i l (fun r d _ _ => ?_)
    fun n => absurd l.2 (fun _ => n (by omega))
  refine ((by pointwise : _ = View.ld E.kbc (Rect.unit ![256, 0] S128x128.size inb_S384x128_S128x128_256_0) (ix2 r d))).trans ?_
  refine (ld2 E.kbc inb_S384x128_S128x128_256_0 r d).trans ?_
  unfold Env.kbc
  have e := ok.cK (shapeCast S256x128 E.kn shapeCasts_S256x128_S256x128) (⟨128 + r, by omega⟩ : Fin 256) d
  refine Eq.trans ?_ (e.trans ((by pointwise : _ = E.kn (ix2 (⟨128 + r, by omega⟩ : Fin 256) d)).trans ((kn_at ok _ _).trans ?_)))
  · congr 2 <;> refine Fin.ext ?_ <;> simp only <;> omega
  · congr 1 <;> simp only [Nat.zero_add]
    omega

/-- The values carried to the next point. -/
theorem cvl_at (L) (i : Fin 384) (hi : i.val < 128) (l : Fin 128) : View.canon (E.cvl :: L) (ix2 i l)
    = proj a (256 * (t + 1) + i - 128) (640 + l) := by
  unfold Env.cvl
  refine canon2 (e := .f32) (fun i j => proj a (256 * (t + 1) + i - 128) (640 + j)) _ _ _ i l (fun r d _ _ => ?_)
    fun n => absurd l.2 (fun _ => n (by omega))
  refine ((by pointwise : _ = View.ld E.vbc (Rect.unit ![256, 0] S128x128.size inb_S384x128_S128x128_256_0) (ix2 r d))).trans ?_
  refine (ld2 E.vbc inb_S384x128_S128x128_256_0 r d).trans ?_
  unfold Env.vbc
  have e := ok.cV (shapeCast S256x128 E.vn shapeCasts_S256x128_S256x128) (⟨128 + r, by omega⟩ : Fin 256) d
  refine Eq.trans ?_ (e.trans ((by pointwise : _ = E.vn (ix2 (⟨128 + r, by omega⟩ : Fin 256) d)).trans ((vn_at ok _ _).trans ?_)))
  · congr 2 <;> refine Fin.ext ?_ <;> simp only <;> omega
  · congr 1 <;> simp only [Nat.zero_add]
    omega

/-- The convolution's inputs carried to the next point. -/
theorem cu_at (L) (i : Fin 264) (hi : i.val < 8) (l : Fin 512) : View.canon (E.cu :: L) (ix2 i l)
    = uu a (256 * (t + 1) + i - 8) l := by
  unfold Env.cu
  refine canon2 (e := .f32) (fun i j => uu a (256 * (t + 1) + i - 8) j) _ _ _ i l (fun r d _ _ => ?_)
    fun n => absurd l.2 (fun _ => n (by omega))
  refine ((by pointwise : _ = View.ld E.ubc (Rect.unit ![256, 0] S8x512.size inb_S264x512_S8x512_256_0) (ix2 r d))).trans ?_
  refine (ld2 E.ubc inb_S264x512_S8x512_256_0 r d).trans ?_
  unfold Env.ubc
  have e := ok.cU (shapeCast S256x512 E.un shapeCasts_S256x512_S256x512) (⟨248 + r, by omega⟩ : Fin 256) d
  refine Eq.trans ?_ (e.trans ((by pointwise : _ = E.un (ix2 (⟨248 + r, by omega⟩ : Fin 256) d)).trans ((un_at ok _ _).trans ?_)))
  · congr 2 <;> refine Fin.ext ?_ <;> simp only <;> omega
  · congr 1 <;> simp only [Nat.zero_add]
    omega

end Cert.Front.Tile
end
-- ==== Proof.Carry.lean ====
/-
  From a point to the next: over the blocks of tile `t` and the rows the tile before left, a point leaves the
  specification's values, and the rows carried to the next point.
-/
module

public import proofs.«01_k».proof.Proof.Open
public import proofs.«01_k».proof.Proof.TileOut
public import Idealize.ShloMosaic.Lib.WritesUnit

@[expose] public section
set_option maxRecDepth 16384
noncomputable section
namespace Cert.Front.Tile
open Cert.KernelIdeal Cert.KernelIdeal.Gen Idealize.ShloMosaic Idealize.ShloMosaic.TcCoe Idealize.SL.Sem

/-- The blocks of tile `t`. -/
structure Blk (a : In) (t : ℕ) (x0 : Vec Ideal S8 .f32) (x1 : Vec Ideal S256x1024 .f32) (x2 : Vec Ideal S256x128 .f32) (x3 : Vec Ideal S256x128 .f32) (x4 : Vec Ideal S256x128 .f32) (x5 : Vec Ideal S1024x2304 .bf16) (x6 : Vec Ideal S1x2304 .f32) (x7 : Vec Ideal S3x512 .f32) (x8 : Vec Ideal S1024x1024 .bf16) (x9 : Vec Ideal S1x1024 .f32) (x10 : Vec Ideal S1x1024 .f32) (x11 : Vec Ideal S1x1024 .f32) (x12 : Vec Ideal S1024x2048 .bf16) (x13 : Vec Ideal S128x128 .bf16) (x14 : Vec Ideal S128x128 .bf16) : Prop where
  h0 : ∀ h : Fin 8, x0 (ix1 h) = a.Sk h
  h1 : ∀ (r : Fin 256) (c : Fin 1024), x1 (ix2 r c) = a.X (256 * t + r) c
  h2 : ∀ (r : Fin 256) (l : Fin 128), x2 (ix2 r l) = rcT a (256 * t + r) (l % 64)
  h3 : ∀ (r : Fin 256) (l : Fin 128), x3 (ix2 r l) = rsaT a (256 * t + r) (l % 64)
  h4 : ∀ (r : Fin 256) (l : Fin 128), x4 (ix2 r l) = rsbT a (256 * t + r) (l % 64)
  h5 : ∀ (k : Fin 1024) (c : Fin 2304), x5 (ix2 k c) = a.W k c
  h6 : ∀ c : Fin 2304, x6 (ix2 0 c) = a.Bi c
  h7 : ∀ (j : Fin 3) (c : Fin 512), x7 (ix2 j c) = a.CW j c
  h8 : ∀ k c : Fin 1024, x8 (ix2 k c) = a.WO k c
  h9 : ∀ c : Fin 1024, x9 (ix2 0 c) = a.BO c
  h10 : ∀ c : Fin 1024, x10 (ix2 0 c) = a.G c
  h11 : ∀ c : Fin 1024, x11 (ix2 0 c) = a.Be c
  h12 : ∀ (k : Fin 1024) (e : Fin 2048), x12 (ix2 k e) = a.WP k e
  h13 : ∀ i d : Fin 128, x13 (ix2 i d) = a.K1 i d
  h14 : ∀ i d : Fin 128, x14 (ix2 i d) = a.K2 i d

/-- What the point of tile `t` leaves: its tile of each result, and the rows the next tile reads. -/
structure Post (a : In) (t : ℕ) (y : Vec Ideal S256x1024 .f32 × Vec Ideal S1024x256 .bf16 × Vec Ideal S8x128x256 .f32 × Vec Ideal S8x128x256 .f32
    × Vec Ideal S384x128 .f32 × Vec Ideal S384x128 .f32 × Vec Ideal S264x512 .f32) : Prop where
  o15 : ∀ (r : Fin 256) (c : Fin 1024), y.1 (ix2 r c) = hh a (256 * t + r) c
  o16 : ∀ (c : Fin 1024) (r : Fin 256), y.2.1 (ix2 c r) = hh a (256 * t + r) c
  o17 : ∀ (h : Fin 8) (i : Fin 128) (r : Fin 256), y.2.2.1 (ix3 h i r) = sc1 a h i (256 * t + r)
  o18 : ∀ (h : Fin 8) (i : Fin 128) (r : Fin 256), y.2.2.2.1 (ix3 h i r) = sc2 a h i (256 * t + r)
  k : ∀ (i : Fin 384) (_ : i.val < 128) (l : Fin 128), y.2.2.2.2.1 (ix2 i l) = rope a (256 * (t + 1) + i - 128) (512 + 64 * (l / 64)) (l % 64)
  v : ∀ (i : Fin 384) (_ : i.val < 128) (l : Fin 128), y.2.2.2.2.2.1 (ix2 i l) = proj a (256 * (t + 1) + i - 128) (640 + l)
  u : ∀ (i : Fin 264) (_ : i.val < 8) (l : Fin 512), y.2.2.2.2.2.2 (ix2 i l) = uu a (256 * (t + 1) + i - 8) l

/-- Rows stored at `o` are what was stored; the rows above them are what was there. -/
theorem rows_at {A B o n : ℕ} {κ : Kind} {sp : Space} (v : View sig κ sp ⟨2, ![A, B]⟩ .f32) (f : v.ty.Contents (Elt Ideal))
    (inb : ∀ a, (![o, 0] : Fin 2 → ℕ) a + (![n, B] : Fin 2 → ℕ) a ≤ (⟨2, ![A, B]⟩ : Shape).size a)
    (w : (⟨2, ![n, B]⟩ : Shape).Idx → EReal) (L) (hA : A = o + n) (i : Fin A) (l : Fin B) :
    v.read (Elt Ideal) (v.writes (Elt Ideal) f ((⟨Rect.unit (s := ⟨2, ![A, B]⟩) ![o, 0] ![n, B] inb, w⟩ : View.Piece (Elt Ideal) ⟨2, ![A, B]⟩ .f32) :: L)) (ix2 i l)
      = if h : i.val < o then v.read (Elt Ideal) (v.writes (Elt Ideal) f L) (ix2 i l) else w (ix2 (⟨i - o, by omega⟩ : Fin n) l) := by
  by_cases h : i.val < o
  · rw [dif_pos h]
    exact View.read_writes_cons_unit_of_not_mem v f inb w L (ix2 i l) rfl (0 : Fin 2) (Or.inl h)
  · rw [dif_neg h]
    refine View.read_writes_cons_unit_of_mem v f inb w L (ix2 i l) (ix2 (⟨i - o, by omega⟩ : Fin n) l) rfl (Fin.forall_fin_two.mpr ⟨?_, ?_⟩)
    · show i.val = o + (i.val - o); omega
    · show l.val = 0 + l.val; omega

/-- The rows cleared at a sequence's start are zero. -/
theorem zero_rows {A B n : ℕ} {κ : Kind} {sp : Space} (v : View sig κ sp ⟨2, ![A, B]⟩ .f32) (f : v.ty.Contents (Elt Ideal))
    (inb : ∀ a, (![0, 0] : Fin 2 → ℕ) a + (![n, B] : Fin 2 → ℕ) a ≤ (⟨2, ![A, B]⟩ : Shape).size a)
    (w : (⟨2, ![n, B]⟩ : Shape).Idx → EReal) (hw : ∀ j, w j = 0) (i : Fin A) (hi : i.val < n) (l : Fin B) :
    v.read (Elt Ideal) (v.writes (Elt Ideal) f [(⟨Rect.unit (s := ⟨2, ![A, B]⟩) ![0, 0] ![n, B] inb, w⟩ : View.Piece (Elt Ideal) ⟨2, ![A, B]⟩ .f32)]) (ix2 i l)
      = 0 := by
  rw [← hw (ix2 (⟨i, hi⟩ : Fin n) l)]
  refine View.read_writes_cons_unit_of_mem v f inb w [] (ix2 i l) (ix2 (⟨i, hi⟩ : Fin n) l) rfl (Fin.forall_fin_two.mpr ⟨?_, ?_⟩)
  · show i.val = 0 + i.val; omega
  · show l.val = 0 + l.val; omega

/-- The rows cleared for the keys are zero. -/
theorem pay2_zero (j) : (k0_pay2 (F := Ideal)) j = 0 := by
  unfold k0_pay2
  pointwise
/-- The rows cleared for the values are zero. -/
theorem pay3_zero (j) : (k0_pay3 (F := Ideal)) j = 0 := by
  unfold k0_pay3
  pointwise
/-- The rows cleared for the convolution's inputs are zero. -/
theorem pay4_zero (j) : (k0_pay4 (F := Ideal)) j = 0 := by
  unfold k0_pay4
  pointwise

variable (c : Dev nD) (i : grid0.Coords) (arg1 : Memref sig .tc .smem S8 .f32) (harg1 : arg1.IsWhole) (arg2 : Memref sig .tc .vmem S256x1024 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1024x2304 .bf16) (harg6 : arg6.IsWhole) (arg7 : Memref sig .tc .vmem S1x2304 .f32) (harg7 : arg7.IsWhole) (arg8 : Memref sig .tc .vmem S3x512 .f32) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x2048 .bf16) (harg13 : arg13.IsWhole) (arg14 : Memref sig .tc .vmem S128x128 .bf16) (harg14 : arg14.IsWhole) (arg15 : Memref sig .tc .vmem S128x128 .bf16) (harg15 : arg15.IsWhole) (arg16 : Memref sig .tc .vmem S256x1024 .f32) (harg16 : arg16.IsWhole) (arg17 : Memref sig .tc .vmem S1024x256 .bf16) (harg17 : arg17.IsWhole) (arg18 : Memref sig .tc .vmem S8x128x256 .f32) (harg18 : arg18.IsWhole) (arg19 : Memref sig .tc .vmem S8x128x256 .f32) (harg19 : arg19.IsWhole) (arg20 : Memref sig .tc .vmem S384x128 .f32) (harg20 : arg20.IsWhole) (arg21 : Memref sig .tc .vmem S384x128 .f32) (harg21 : arg21.IsWhole) (arg22 : Memref sig .tc .vmem S264x512 .f32) (harg22 : arg22.IsWhole) (arg23 : Memref sig .tc .vmem S4x384x128 .bf16) (harg23 : arg23.IsWhole) (arg24 : Memref sig .tc .vmem S4x384x128 .bf16) (harg24 : arg24.IsWhole) (arg25 : Memref sig .tc .vmem S256x1024 .bf16) (harg25 : arg25.IsWhole)
variable (x0 : Vec Ideal S8 .f32) (x1 : Vec Ideal S256x1024 .f32) (x2 : Vec Ideal S256x128 .f32) (x3 : Vec Ideal S256x128 .f32) (x4 : Vec Ideal S256x128 .f32) (x5 : Vec Ideal S1024x2304 .bf16) (x6 : Vec Ideal S1x2304 .f32) (x7 : Vec Ideal S3x512 .f32) (x8 : Vec Ideal S1024x1024 .bf16) (x9 : Vec Ideal S1x1024 .f32) (x10 : Vec Ideal S1x1024 .f32) (x11 : Vec Ideal S1x1024 .f32) (x12 : Vec Ideal S1024x2048 .bf16) (x13 : Vec Ideal S128x128 .bf16) (x14 : Vec Ideal S128x128 .bf16) (xs0 : Vec Ideal S384x128 .f32) (xs1 : Vec Ideal S384x128 .f32) (xs2 : Vec Ideal S264x512 .f32)
variable {a : In} {t : ℕ} (ht : t < 64) (hi : (i 0).val = t) (hb : Blk a t x0 x1 x2 x3 x4 x5 x6 x7 x8 x9 x10 x11 x12 x13 x14)
include ht hi hb

set_option maxHeartbeats 2000000 in
/-- The point finds tile `t` and the rows before it. -/
theorem okA (hm : t % 32 = 0) :
    Ok a t (envA i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 arg21 arg22 arg23 arg24 arg25 x0 x1 x2 x3 x4 x5 x6 x7 x8 x9 x10 x11 x12 x13 x14) := {
    ht := ht
    hi := congrArg (BitVec.ofNat 32) hi
    h0 := fun p0 => (congrFun (harg1.read_unread x0) _).trans (hb.h0 p0)
    h1 := fun p0 p1 => (congrFun (harg2.read_unread x1) _).trans (hb.h1 p0 p1)
    h2 := fun p0 p1 => (congrFun (harg3.read_unread x2) _).trans (hb.h2 p0 p1)
    h3 := fun p0 p1 => (congrFun (harg4.read_unread x3) _).trans (hb.h3 p0 p1)
    h4 := fun p0 p1 => (congrFun (harg5.read_unread x4) _).trans (hb.h4 p0 p1)
    h5 := fun p0 p1 => (congrFun (harg6.read_unread x5) _).trans (hb.h5 p0 p1)
    h6 := fun p0 => (congrFun (harg7.read_unread x6) _).trans (hb.h6 p0)
    h7 := fun p0 p1 => (congrFun (harg8.read_unread x7) _).trans (hb.h7 p0 p1)
    h8 := fun p0 p1 => (congrFun (harg9.read_unread x8) _).trans (hb.h8 p0 p1)
    h9 := fun p0 => (congrFun (harg10.read_unread x9) _).trans (hb.h9 p0)
    h10 := fun p0 => (congrFun (harg11.read_unread x10) _).trans (hb.h10 p0)
    h11 := fun p0 => (congrFun (harg12.read_unread x11) _).trans (hb.h11 p0)
    h12 := fun p0 p1 => (congrFun (harg13.read_unread x12) _).trans (hb.h12 p0 p1)
    h13 := fun p0 p1 => (congrFun (harg14.read_unread x13) _).trans (hb.h13 p0 p1)
    h14 := fun p0 p1 => (congrFun (harg15.read_unread x14) _).trans (hb.h14 p0 p1)
    rK := fun w p l => (rows_at arg20.view _ _ w _ rfl p l).trans (by
      rw [if_pos hm]
      exact dite_congr rfl (fun h => zero_rows arg20.view _ _ _ pay2_zero p h l) fun _ => rfl)
    rV := fun w p l => (rows_at arg21.view _ _ w _ rfl p l).trans (by
      rw [if_pos hm]
      exact dite_congr rfl (fun h => zero_rows arg21.view _ _ _ pay3_zero p h l) fun _ => rfl)
    rU := fun w p l => (rows_at arg22.view _ _ w _ rfl p l).trans (by
      rw [if_pos hm]
      exact dite_congr rfl (fun h => zero_rows arg22.view _ _ _ pay4_zero p h l) fun _ => rfl)
    cK := fun w p l => (rows_at arg20.view _ _ w _ rfl _ l).trans ((dif_neg (by simp)).trans (congrArg w (congrArg (fun q => ix2 q l) (Fin.ext (by simp)))))
    cV := fun w p l => (rows_at arg21.view _ _ w _ rfl _ l).trans ((dif_neg (by simp)).trans (congrArg w (congrArg (fun q => ix2 q l) (Fin.ext (by simp)))))
    cU := fun w p l => (rows_at arg22.view _ _ w _ rfl _ l).trans ((dif_neg (by simp)).trans (congrArg w (congrArg (fun q => ix2 q l) (Fin.ext (by simp)))))
    r3 := funext fun L => View.read_writes_junk_eq_canon arg23.view L
    r4 := funext fun L => View.read_writes_junk_eq_canon arg24.view L
    r5 := funext fun L => View.read_writes_junk_eq_canon arg25.view L }

/-- So the point leaves the specification's values. -/
theorem postA (hm : t % 32 = 0) (hc0 : cond0_0 i) :
    Post a t (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14,
      out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14,
      out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14,
      out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14,
      sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14,
      sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14,
      sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14) := by
  have ok := okA i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 arg21 arg22 arg23 arg24 arg25 x0 x1 x2 x3 x4 x5 x6 x7 x8 x9 x10 x11 x12 x13 x14 ht hi hb hm
  refine ⟨fun r d => ?_, fun d r => ?_, fun h p r => ?_, fun h p r => ?_, fun p hp l => ?_, fun p hp l => ?_, fun p hp l => ?_⟩
  · dsimp only
    unfold out0_A_15
    rw [View.read_writes_junk_eq_canon, runA_15]
    exact (congrFun (View.canon_cons_unit_lit (S := S256x1024) _ _ [] (by decide)) _).trans (o15_at ok r d)
  · dsimp only
    unfold out0_A_16
    rw [View.read_writes_junk_eq_canon, runA_16]
    exact (congrFun (View.canon_cons_unit_lit (S := S1024x256) _ _ [] (by decide)) _).trans (o16_at ok r d)
  · dsimp only
    unfold out0_A_17
    rw [View.read_writes_junk_eq_canon, runA_17]
    exact o17_at ok h p r
  · dsimp only
    unfold out0_A_18
    rw [View.read_writes_junk_eq_canon, runA_18]
    exact o18_at ok h p r
  · dsimp only
    unfold sout0_A_0
    rw [View.read_writes_junk_eq_canon, runA_k]
    exact ck_at ok _ p hp l
  · dsimp only
    unfold sout0_A_1
    rw [View.read_writes_junk_eq_canon, runA_v]
    exact cvl_at ok _ p hp l
  · dsimp only
    unfold sout0_A_2
    rw [View.read_writes_junk_eq_canon, runA_u]
    exact cu_at ok _ p hp l

set_option maxHeartbeats 2000000 in
/-- The point finds tile `t` and the rows before it. -/
theorem okB (hm : ¬t % 32 = 0)
    (hk : ∀ (p : Fin 384) (_ : p.val < 128) (l : Fin 128), xs0 (ix2 p l) = rope a (256 * t + p - 128) (512 + 64 * (l / 64)) (l % 64))
    (hv : ∀ (p : Fin 384) (_ : p.val < 128) (l : Fin 128), xs1 (ix2 p l) = proj a (256 * t + p - 128) (640 + l))
    (hu : ∀ (p : Fin 264) (_ : p.val < 8) (l : Fin 512), xs2 (ix2 p l) = uu a (256 * t + p - 8) l) :
    Ok a t (envB i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 harg20 arg21 harg21 arg22 harg22 arg23 arg24 arg25 x0 x1 x2 x3 x4 x5 x6 x7 x8 x9 x10 x11 x12 x13 x14 xs0 xs1 xs2) := {
    ht := ht
    hi := congrArg (BitVec.ofNat 32) hi
    h0 := fun p0 => (congrFun (harg1.read_unread x0) _).trans (hb.h0 p0)
    h1 := fun p0 p1 => (congrFun (harg2.read_unread x1) _).trans (hb.h1 p0 p1)
    h2 := fun p0 p1 => (congrFun (harg3.read_unread x2) _).trans (hb.h2 p0 p1)
    h3 := fun p0 p1 => (congrFun (harg4.read_unread x3) _).trans (hb.h3 p0 p1)
    h4 := fun p0 p1 => (congrFun (harg5.read_unread x4) _).trans (hb.h4 p0 p1)
    h5 := fun p0 p1 => (congrFun (harg6.read_unread x5) _).trans (hb.h5 p0 p1)
    h6 := fun p0 => (congrFun (harg7.read_unread x6) _).trans (hb.h6 p0)
    h7 := fun p0 p1 => (congrFun (harg8.read_unread x7) _).trans (hb.h7 p0 p1)
    h8 := fun p0 p1 => (congrFun (harg9.read_unread x8) _).trans (hb.h8 p0 p1)
    h9 := fun p0 => (congrFun (harg10.read_unread x9) _).trans (hb.h9 p0)
    h10 := fun p0 => (congrFun (harg11.read_unread x10) _).trans (hb.h10 p0)
    h11 := fun p0 => (congrFun (harg12.read_unread x11) _).trans (hb.h11 p0)
    h12 := fun p0 p1 => (congrFun (harg13.read_unread x12) _).trans (hb.h12 p0 p1)
    h13 := fun p0 p1 => (congrFun (harg14.read_unread x13) _).trans (hb.h13 p0 p1)
    h14 := fun p0 p1 => (congrFun (harg15.read_unread x14) _).trans (hb.h14 p0 p1)
    rK := fun w p l => (rows_at arg20.view _ _ w _ rfl p l).trans (by
      rw [if_neg hm]
      exact dite_congr rfl (fun h => (congrFun (harg20.read_unread xs0) _).trans (hk p h l)) fun _ => rfl)
    rV := fun w p l => (rows_at arg21.view _ _ w _ rfl p l).trans (by
      rw [if_neg hm]
      exact dite_congr rfl (fun h => (congrFun (harg21.read_unread xs1) _).trans (hv p h l)) fun _ => rfl)
    rU := fun w p l => (rows_at arg22.view _ _ w _ rfl p l).trans (by
      rw [if_neg hm]
      exact dite_congr rfl (fun h => (congrFun (harg22.read_unread xs2) _).trans (hu p h l)) fun _ => rfl)
    cK := fun w p l => (rows_at arg20.view _ _ w _ rfl _ l).trans ((dif_neg (by simp)).trans (congrArg w (congrArg (fun q => ix2 q l) (Fin.ext (by simp)))))
    cV := fun w p l => (rows_at arg21.view _ _ w _ rfl _ l).trans ((dif_neg (by simp)).trans (congrArg w (congrArg (fun q => ix2 q l) (Fin.ext (by simp)))))
    cU := fun w p l => (rows_at arg22.view _ _ w _ rfl _ l).trans ((dif_neg (by simp)).trans (congrArg w (congrArg (fun q => ix2 q l) (Fin.ext (by simp)))))
    r3 := funext fun L => View.read_writes_junk_eq_canon arg23.view L
    r4 := funext fun L => View.read_writes_junk_eq_canon arg24.view L
    r5 := funext fun L => View.read_writes_junk_eq_canon arg25.view L }

/-- So the point leaves the specification's values. -/
theorem postB (hm : ¬t % 32 = 0)
    (hk : ∀ (p : Fin 384) (_ : p.val < 128) (l : Fin 128), xs0 (ix2 p l) = rope a (256 * t + p - 128) (512 + 64 * (l / 64)) (l % 64))
    (hv : ∀ (p : Fin 384) (_ : p.val < 128) (l : Fin 128), xs1 (ix2 p l) = proj a (256 * t + p - 128) (640 + l))
    (hu : ∀ (p : Fin 264) (_ : p.val < 8) (l : Fin 512), xs2 (ix2 p l) = uu a (256 * t + p - 8) l) (hc0 : ¬cond0_0 i) :
    Post a t (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2,
      out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2,
      out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2,
      out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2,
      sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2,
      sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2,
      sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0 xs1 xs2) := by
  have ok := okB i arg1 harg1 arg2 harg2 arg3 harg3 arg4 harg4 arg5 harg5 arg6 harg6 arg7 harg7 arg8 harg8 arg9 harg9 arg10 harg10 arg11 harg11 arg12 harg12 arg13 harg13 arg14 harg14 arg15 harg15 arg20 harg20 arg21 harg21 arg22 harg22 arg23 arg24 arg25 x0 x1 x2 x3 x4 x5 x6 x7 x8 x9 x10 x11 x12 x13 x14 xs0 xs1 xs2 ht hi hb hm hk hv hu
  refine ⟨fun r d => ?_, fun d r => ?_, fun h p r => ?_, fun h p r => ?_, fun p hp l => ?_, fun p hp l => ?_, fun p hp l => ?_⟩
  · dsimp only
    unfold out0_B_15
    rw [View.read_writes_junk_eq_canon, runB_15]
    exact (congrFun (View.canon_cons_unit_lit (S := S256x1024) _ _ [] (by decide)) _).trans (o15_at ok r d)
  · dsimp only
    unfold out0_B_16
    rw [View.read_writes_junk_eq_canon, runB_16]
    exact (congrFun (View.canon_cons_unit_lit (S := S1024x256) _ _ [] (by decide)) _).trans (o16_at ok r d)
  · dsimp only
    unfold out0_B_17
    rw [View.read_writes_junk_eq_canon, runB_17]
    exact o17_at ok h p r
  · dsimp only
    unfold out0_B_18
    rw [View.read_writes_junk_eq_canon, runB_18]
    exact o18_at ok h p r
  · dsimp only
    unfold sout0_B_0
    rw [View.read_writes_junk_eq_canon, runB_k]
    exact ck_at ok _ p hp l
  · dsimp only
    unfold sout0_B_1
    rw [View.read_writes_junk_eq_canon, runB_v]
    exact cvl_at ok _ p hp l
  · dsimp only
    unfold sout0_B_2
    rw [View.read_writes_junk_eq_canon, runB_u]
    exact cu_at ok _ p hp l

end Cert.Front.Tile
end
-- ==== Proof.Blocks.lean ====
/-
  What each window shows at each point: the tables' and the tokens' rows `256 t`, …, `256 t + 255`, and the weights whole.
-/
module

public import proofs.«01_k».proof.Proof.HostVal
public import proofs.«01_k».proof.Proof.Carry

@[expose] public section
set_option maxRecDepth 16384
noncomputable section
namespace Cert.Front.Tile
open Cert.KernelIdeal Cert.KernelIdeal.Gen Idealize.ShloMosaic Idealize.ShloMosaic.TcCoe Idealize.SL.Sem

variable (m : (ℓ : Loc nD τ sig) → Buf (Elt Ideal) ℓ) (c : Dev nD)

/-- The grid's one coordinate is the point. -/
theorem coord0 : ∀ t : Fin cfg0.N, ((grid0.coords t) 0).val = t.val :=
  (by decide +kernel : ∀ t : Fin grid0.N, ((grid0.coords t) 0).val = t.val)

/-- An index of a matrix is its two coordinates. -/
theorem ext2 {A B : ℕ} (y : (⟨2, ![A, B]⟩ : Shape).Idx) (i : Fin A) (j : Fin B) (h0 : (y 0).val = i.val) (h1 : (y 1).val = j.val) : y = ix2 i j := by
  funext a
  refine Fin.ext ?_
  fin_cases a
  · exact h0
  · exact h1

/-- A block of whole rows, at block index `(q, 0)`. -/
theorem ext_rows {A B n : ℕ} {q : Fin 2 → ℕ} {t : ℕ} (y : (⟨2, ![A, B]⟩ : Shape).Idx) (r : Fin n) (j : Fin B) (hr : n * t + r.val < A)
    (h0 : (y 0).val = q 0 * n + 1 * r.val) (h1 : (y 1).val = q 1 * B + 1 * j.val) (hq : q = ![t, 0]) : y = ix2 (⟨n * t + r, hr⟩ : Fin A) j := by
  subst hq
  refine ext2 y _ j (h0.trans ?_) (h1.trans ?_)
  · show t * n + 1 * r.val = n * t + r.val
    rw [Nat.one_mul, Nat.mul_comm]
  · show 0 * B + 1 * j.val = j.val
    omega

/-- A block that is its whole array. -/
theorem ext_whole {A B : ℕ} {q : Fin 2 → ℕ} (y : (⟨2, ![A, B]⟩ : Shape).Idx) (r : Fin A) (j : Fin B)
    (h0 : (y 0).val = q 0 * A + 1 * r.val) (h1 : (y 1).val = q 1 * B + 1 * j.val) (hq : q = ![0, 0]) : y = ix2 r j := by
  subst hq
  refine ext2 y r j (h0.trans ?_) (h1.trans ?_)
  · show 0 * A + 1 * r.val = r.val
    omega
  · show 0 * B + 1 * j.val = j.val
    omega

/-- A tile's row is a row of the array. -/
theorem row_lt {t : Fin cfg0.N} (r : Fin 256) : 256 * t.val + r.val < 16384 := by
  have := lt_of_lt_of_eq t.2 (show cfg0.N = 64 from N_0)
  omega

/-- The tokens' block at a point. -/
theorem idx1 : ∀ t : Fin cfg0.N, win0_1.index t = ![t.val, 0] := (by decide +kernel : ∀ t : Fin grid0.N, win0_1.index t = ![t.val, 0])
/-- The first rotary table's block at a point. -/
theorem idx2 : ∀ t : Fin cfg0.N, win0_2.index t = ![t.val, 0] := (by decide +kernel : ∀ t : Fin grid0.N, win0_2.index t = ![t.val, 0])
/-- The second rotary table's block at a point. -/
theorem idx3 : ∀ t : Fin cfg0.N, win0_3.index t = ![t.val, 0] := (by decide +kernel : ∀ t : Fin grid0.N, win0_3.index t = ![t.val, 0])
/-- The third rotary table's block at a point. -/
theorem idx4 : ∀ t : Fin cfg0.N, win0_4.index t = ![t.val, 0] := (by decide +kernel : ∀ t : Fin grid0.N, win0_4.index t = ![t.val, 0])

/-- The tokens' block at an index. -/
theorem blk1 (t : Fin cfg0.N) (r : Fin 256) (k : Fin 1024) : iblk m c 1 t (ix2 r k) = V m c main_v35 (ix2 (⟨256 * t + r, row_lt r⟩ : Fin 16384) k) :=
  congrArg (V m c main_v35) (ext_rows (((cfg0.win 1).blk t).view.emb (ix2 r k)) r k (row_lt r) rfl rfl (idx1 t))

set_option maxHeartbeats 2000000 in
/-- Every point finds its tile's blocks. -/
theorem blk_ok (t : Fin cfg0.N) : Blk (inpK m c) t.val (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) (iblk m c 14 t) where
  h0 := fun h => (congrArg (V m c main_v36) (show ((cfg0.win 0).blk t).view.emb (ix1 h) = ix1 h from funext fun (a : Fin 1) => by
    obtain rfl : a = 0 := Subsingleton.elim _ _
    refine Fin.ext ?_
    show 0 * 8 + 1 * h.val = h.val
    omega)).trans (V36 m c h)
  h1 := fun r k => (blk1 m c t r k).trans (V35 m c _ k)
  h2 := fun r l => (congrArg (V m c main_v28) (ext_rows (((cfg0.win 2).blk t).view.emb (ix2 r l)) r l (row_lt r) rfl rfl (idx2 t))).trans (rc_val m c _ l)
  h3 := fun r l => (congrArg (V m c main_v31) (ext_rows (((cfg0.win 3).blk t).view.emb (ix2 r l)) r l (row_lt r) rfl rfl (idx3 t))).trans (rsa_val m c _ l)
  h4 := fun r l => (congrArg (V m c main_v34) (ext_rows (((cfg0.win 4).blk t).view.emb (ix2 r l)) r l (row_lt r) rfl rfl (idx4 t))).trans (rsb_val m c _ l)
  h5 := fun k d => (congrArg (V m c main_v38) (ext_whole (q := win0_5.index t) (((cfg0.win 5).blk t).view.emb (ix2 k d)) k d rfl rfl rfl)).trans (V38 m c k d)
  h6 := fun d => ((congrArg (V m c main_arg3) (ext_whole (q := win0_6.index t) (((cfg0.win 6).blk t).view.emb (ix2 0 d)) 0 d rfl rfl rfl)).trans
    (congrFun (V_main_arg3 m c) _)).trans (row_at _ d)
  h7 := fun k d => (congrArg (V m c main_v39) (ext_whole (q := win0_7.index t) (((cfg0.win 7).blk t).view.emb (ix2 k d)) k d rfl rfl rfl)).trans (V39 m c k d)
  h8 := fun k d => (congrArg (V m c main_v41) (ext_whole (q := win0_8.index t) (((cfg0.win 8).blk t).view.emb (ix2 k d)) k d rfl rfl rfl)).trans (V41 m c k d)
  h9 := fun d => ((congrArg (V m c main_arg7) (ext_whole (q := win0_9.index t) (((cfg0.win 9).blk t).view.emb (ix2 0 d)) 0 d rfl rfl rfl)).trans
    (congrFun (V_main_arg7 m c) _)).trans (row_at _ d)
  h10 := fun d => ((congrArg (V m c main_arg8) (ext_whole (q := win0_10.index t) (((cfg0.win 10).blk t).view.emb (ix2 0 d)) 0 d rfl rfl rfl)).trans
    (congrFun (V_main_arg8 m c) _)).trans (row_at _ d)
  h11 := fun d => ((congrArg (V m c main_arg9) (ext_whole (q := win0_11.index t) (((cfg0.win 11).blk t).view.emb (ix2 0 d)) 0 d rfl rfl rfl)).trans
    (congrFun (V_main_arg9 m c) _)).trans (row_at _ d)
  h12 := fun k d => (congrArg (V m c main_v43) (ext_whole (q := win0_12.index t) (((cfg0.win 12).blk t).view.emb (ix2 k d)) k d rfl rfl rfl)).trans (V43 m c k d)
  h13 := fun k d => (congrArg (V m c main_v45) (ext_whole (q := win0_13.index t) (((cfg0.win 13).blk t).view.emb (ix2 k d)) k d rfl rfl rfl)).trans (V45 m c k d)
  h14 := fun k d => (congrArg (V m c main_v47) (ext_whole (q := win0_14.index t) (((cfg0.win 14).blk t).view.emb (ix2 k d)) k d rfl rfl rfl)).trans (V47 m c k d)

end Cert.Front.Tile
end
-- ==== Proof.Sweep.lean ====
/-
  Over the whole grid: what the kernel's four results hold at every index.
-/
module

public import proofs.«01_k».proof.Proof.Blocks
public import proofs.«01_k».proof.Proof.Gen.KernelIdeal.Value

@[expose] public section
set_option maxRecDepth 16384
noncomputable section
namespace Cert.Front.Tile
open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- One point: what it leaves is the specification's tile, when the point before it (in the same sequence) left the tile before. -/
theorem step (t : Fin cfg0.N) (acc : Vec Ideal S256x1024 .f32 × Vec Ideal S1024x256 .bf16 × Vec Ideal S8x128x256 .f32 × Vec Ideal S8x128x256 .f32 × Vec Ideal S384x128 .f32 × Vec Ideal S384x128 .f32 × Vec Ideal S264x512 .f32)
    (hacc : ¬t.val % 32 = 0 → ∃ s, s + 1 = t.val ∧ Post (inpK m c) s acc) : Post (inpK m c) t.val (stAt0 m c t.val t.isLt acc) := by
  have ht : t.val < 64 := lt_of_lt_of_eq t.2 (show cfg0.N = 64 from N_0)
  by_cases h0 : t.val % 32 = 0
  · rw [stAt0_A m c t acc h0]
    exact postA (ht := ht) (hi := coord0 t) (hb := blk_ok m c t) (hm := h0) (hc0 := (hcond0_0 t).mpr h0) ..
  · obtain ⟨s, hs, hp⟩ := hacc h0
    rw [stAt0_B m c t acc h0]
    have hk := hp.k
    have hv := hp.v
    have hu := hp.u
    rw [hs] at hk hv hu
    exact postB (ht := ht) (hi := coord0 t) (hb := blk_ok m c t) (hm := h0) (hk := hk) (hv := hv) (hu := hu)
      (hc0 := fun h => h0 ((hcond0_0 t).mp h)) ..

/-- Every point leaves the specification's tile. -/
theorem sweep : ∀ (n : ℕ) (h : 0 + n < cfg0.N),
    Post (inpK m c) n (Pipeline.accAt (fun n h => stAt0 m c n h junk0) (stAt0 m c) 0 n h)
  | 0, h => step m c ⟨0, h⟩ junk0 fun h0 => absurd rfl h0
  | n + 1, h => by
    rw [Pipeline.accAt_succ]
    have e : ∀ (q : ℕ) (hq : q < cfg0.N) (_ : q = n + 1) (acc : _), Post (inpK m c) n acc → Post (inpK m c) (n + 1) (stAt0 m c q hq acc) := by
      intro q hq hn acc ha
      subst hn
      exact step m c ⟨n + 1, hq⟩ acc fun _ => ⟨n, rfl, ha⟩
    exact e _ h (Nat.zero_add _) _ (sweep n (Nat.lt_of_succ_lt h))

/-- A number under 64 is a point of the grid. -/
theorem lt_N {n : ℕ} (h : n < 64) : n < cfg0.N := lt_of_lt_of_eq h (show 64 = cfg0.N from N_0.symm)

/-- The first result at an index: the layer norm. -/
theorem g15 (i : S16384x1024.Idx) : G15 m c i = hh (inpK m c) (i 0).val (i 1).val := by
  have b0 : (i 0).val < 16384 := (i 0).isLt
  have b1 : (i 1).val < 1024 := (i 1).isLt
  unfold G15
  rw [dif_pos (lt_N (by show 1 * ((i 0).val / 256 - 0) + 1 * ((i 1).val / 1024 - 0) < 64; omega))]
  refine ((congrArg _ (ext2 (loc15Of i) (⟨(i 0).val % 256, Nat.mod_lt _ (by decide)⟩ : Fin 256) (⟨(i 1).val % 1024, Nat.mod_lt _ (by decide)⟩ : Fin 1024) rfl rfl)).trans
    ((sweep m c (pt15Of i) _).o15 _ _)).trans ?_
  refine congrArg₂ (hh (inpK m c)) ?_ ?_
  · show 256 * (1 * ((i 0).val / 256 - 0) + 1 * ((i 1).val / 1024 - 0)) + (i 0).val % 256 = (i 0).val
    omega
  · show (i 1).val % 1024 = (i 1).val
    omega

/-- The second result at an index: the layer norm, one column a token. -/
theorem g16 (i : S1024x16384.Idx) : G16 m c i = hh (inpK m c) (i 1).val (i 0).val := by
  have b0 : (i 0).val < 1024 := (i 0).isLt
  have b1 : (i 1).val < 16384 := (i 1).isLt
  unfold G16
  rw [dif_pos (lt_N (by show 64 * ((i 0).val / 1024 - 0) + 1 * ((i 1).val / 256 - 0) < 64; omega))]
  refine ((congrArg _ (ext2 (loc16Of i) (⟨(i 0).val % 1024, Nat.mod_lt _ (by decide)⟩ : Fin 1024) (⟨(i 1).val % 256, Nat.mod_lt _ (by decide)⟩ : Fin 256) rfl rfl)).trans
    ((sweep m c (pt16Of i) _).o16 _ _)).trans ?_
  refine congrArg₂ (hh (inpK m c)) ?_ ?_
  · show 256 * (64 * ((i 0).val / 1024 - 0) + 1 * ((i 1).val / 256 - 0)) + (i 1).val % 256 = (i 1).val
    omega
  · show (i 0).val % 1024 = (i 0).val
    omega

/-- An index of a rank-3 array is its three coordinates. -/
theorem ext3 {A B C : ℕ} (y : (⟨3, ![A, B, C]⟩ : Shape).Idx) (i : Fin A) (j : Fin B) (k : Fin C) (h0 : (y 0).val = i.val) (h1 : (y 1).val = j.val)
    (h2 : (y 2).val = k.val) : y = ix3 i j k := by
  funext a
  refine Fin.ext ?_
  fin_cases a
  · exact h0
  · exact h1
  · exact h2

/-- The score arrays' point and place in its block give back the index. -/
theorem score_idx {a0 a1 a2 : ℕ} (h0 : a0 < 8) (h1 : a1 < 128) (h2 : a2 < 16384) :
    64 * (a0 / 8 - 0) + 64 * (a1 / 128 - 0) + 1 * (a2 / 256 - 0) < 64 ∧ a0 % 8 = a0 ∧ a1 % 128 = a1
      ∧ 256 * (64 * (a0 / 8 - 0) + 64 * (a1 / 128 - 0) + 1 * (a2 / 256 - 0)) + a2 % 256 = a2 := by
  omega

/-- The third result at an index: the scores of the first sub-key table. -/
theorem g17 (i : S8x128x16384.Idx) : G17 m c i = sc1 (inpK m c) (i 0).val (i 1).val (i 2).val := by
  obtain ⟨e, e0, e1, e2⟩ := score_idx (i 0).isLt (i 1).isLt (i 2).isLt
  unfold G17
  rw [dif_pos (lt_N e)]
  refine ((congrArg _ (ext3 (loc17Of i) (⟨(i 0).val % 8, Nat.mod_lt _ (by decide)⟩ : Fin 8) (⟨(i 1).val % 128, Nat.mod_lt _ (by decide)⟩ : Fin 128)
    (⟨(i 2).val % 256, Nat.mod_lt _ (by decide)⟩ : Fin 256) rfl rfl rfl)).trans ((sweep m c (pt17Of i) _).o17 _ _ _)).trans ?_
  exact (congrArg₂ (fun p q => sc1 (inpK m c) p q _) e0 e1).trans (congrArg (sc1 (inpK m c) _ _) e2)

/-- The fourth result at an index: the scores of the second sub-key table. -/
theorem g18 (i : S8x128x16384.Idx) : G18 m c i = sc2 (inpK m c) (i 0).val (i 1).val (i 2).val := by
  obtain ⟨e, e0, e1, e2⟩ := score_idx (i 0).isLt (i 1).isLt (i 2).isLt
  unfold G18
  rw [dif_pos (lt_N e)]
  refine ((congrArg _ (ext3 (loc18Of i) (⟨(i 0).val % 8, Nat.mod_lt _ (by decide)⟩ : Fin 8) (⟨(i 1).val % 128, Nat.mod_lt _ (by decide)⟩ : Fin 128)
    (⟨(i 2).val % 256, Nat.mod_lt _ (by decide)⟩ : Fin 256) rfl rfl rfl)).trans ((sweep m c (pt18Of i) _).o18 _ _ _)).trans ?_
  exact (congrArg₂ (fun p q => sc2 (inpK m c) p q _) e0 e1).trans (congrArg (sc2 (inpK m c) _ _) e2)

end Cert.Front.Tile
end
-- ==== Proof.KeyTile.lean ====
/-
  The selection call at one grid point: its last result's block holds every key's weight relative to the best key.
-/
module

public import proofs.«01_k».proof.Proof.Gen.SelectIdeal.Frame
public import Idealize.ShloMosaic.Lib.Pointwise

@[expose] public section
set_option maxRecDepth 16384
noncomputable section
namespace Cert.Keys
open Cert.SelectIdeal Cert.SelectIdeal.Gen Idealize.ShloMosaic Idealize.ShloMosaic.TcCoe Idealize.SL.Sem

/-- The weight of key `k` among 128 scores: the exponential of its score less the largest. -/
def weight (s : Fin 128 → EReal) (k : Fin 128) : EReal :=
  Ideal.exp (s k - Finset.univ.fold max (Ideal.ofBits .f32 0xFF800000#32) s)

/-- A key's number from its row of eight and its place there. -/
def key (p : Fin 16) (q : Fin 8) : Fin 128 := ⟨p.val * 8 + q.val, by omega⟩

/-- What one step stores, at an index: the weight of the key, over the token's 128 scores. -/
theorem pay_at (v : Vec Ideal S1x128x128 .f32) (p : Fin 16) (o : Fin 1) (q : Fin 8) (l : Fin 128) :
    k0_pay199 (k0_pay2 v) (k0_pay4 v) (ix4 p o q l) = weight (fun k => v (ix3 0 k l)) (key p q) := by
  unfold k0_pay199 k0_pay4 k0_pay2 weight key
  pointwise

/-- An index of a three-axis array is its three coordinates. -/
theorem ext3 {A B C : ℕ} (y : (⟨3, ![A, B, C]⟩ : Shape).Idx) (i : Fin A) (j : Fin B) (k : Fin C) (h0 : (y 0).val = i.val) (h1 : (y 1).val = j.val)
    (h2 : (y 2).val = k.val) : y = ix3 i j k := by
  funext a
  refine Fin.ext ?_
  fin_cases a
  · exact h0
  · exact h1
  · exact h2

/-- A rectangle's coordinate on an axis it starts at zero. -/
theorem rect1 {o : ℕ} (h : o = 0) (n : ℕ) : o + 1 * n = n := by omega

/-- A rectangle's coordinate on an axis with a start. -/
theorem rect2 {o b : ℕ} (h : o = b) (n : ℕ) : o + 1 * n = b + n := by omega

section Run
variable {F : FTy → Type} [FloatOps F]
variable (c : Dev nD) (i : grid0.Coords) (arg2 : Memref sig .tc .vmem S80x128 .i32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S16x1x8x512 .f32) (harg7 : arg7.IsWhole) (arg8 : Memref sig .tc .vmem S16x1x8x512 .f32) (harg8 : arg8.IsWhole)
variable (x0 : Vec F S80x128 .i32) (x1 : Vec F S1x128x512 .f32) (x2 : Vec F S1x128x512 .f32)

/-- One trip's store into the last result: the weights of its 128 tokens. -/
theorem trip8 (v0 : Vec F S80x128 .i32) (v3 : IVec S16x128 32) (X3 : BufTy.Contents (Elt F) arg3.view.ty) (X4 : BufTy.Contents (Elt F) arg4.view.ty) (k : Fin k0_t1_loop.trips) :
    (trip_k0_t1 (F := F) Variants.none c none i arg2 harg2 arg3 harg3 arg4 harg4 arg5 harg5 arg6 harg6 arg7 harg7 arg8 harg8 v0 v3 X3 X4 k).2.2.2.1 =
      [⟨Rect.unit (s := S16x1x8x512) (k0_off2 k) S16x1x8x128.size (k0_off2_inb k),
        k0_pay199 (k0_pay2 (View.readAt (Elt F) arg3.view (Rect.unit (s := S1x128x512) (k0_off1 k) S1x128x128.size (k0_off1_inb k)).toLoadRect X3))
          (k0_pay4 (View.readAt (Elt F) arg3.view (Rect.unit (s := S1x128x512) (k0_off1 k) S1x128x128.size (k0_off1_inb k)).toLoadRect X3))⟩] := by
  unfold trip_k0_t1
  rfl

/-- The run's stores into the last result are the trips' stores. -/
theorem run8 :
    ∃ v0 v3, (kernelRun0_A c i arg2 harg2 arg3 harg3 arg4 harg4 arg5 harg5 arg6 harg6 arg7 harg7 arg8 harg8 x0 x1 x2).2.2.2.1 =
      (pb_k0_t1 Variants.none c none i arg2 harg2 arg3 harg3 arg4 harg4 arg5 harg5 arg6 harg6 arg7 harg7 arg8 harg8 v0 v3
        (harg3.unread x1) (harg4.unread x2) k0_t1_loop.trips).2.2.2 :=
  ⟨_, _, by unfold kernelRun0_A; rfl⟩

/-- A property of every trip's stores is one of all of them. -/
theorem pb8 (v0 : Vec F S80x128 .i32) (v3 : IVec S16x128 32) (X3 : BufTy.Contents (Elt F) arg3.view.ty) (X4 : BufTy.Contents (Elt F) arg4.view.ty)
    (P : View.Piece (Elt F) S16x1x8x512 .f32 → Prop)
    (hP : ∀ k : Fin k0_t1_loop.trips, P ⟨Rect.unit (s := S16x1x8x512) (k0_off2 k) S16x1x8x128.size (k0_off2_inb k),
        k0_pay199 (k0_pay2 (View.readAt (Elt F) arg3.view (Rect.unit (s := S1x128x512) (k0_off1 k) S1x128x128.size (k0_off1_inb k)).toLoadRect X3))
          (k0_pay4 (View.readAt (Elt F) arg3.view (Rect.unit (s := S1x128x512) (k0_off1 k) S1x128x128.size (k0_off1_inb k)).toLoadRect X3))⟩) :
    ∀ n : ℕ, n ≤ k0_t1_loop.trips → ∀ p ∈ (pb_k0_t1 Variants.none c none i arg2 harg2 arg3 harg3 arg4 harg4 arg5 harg5 arg6 harg6 arg7 harg7 arg8 harg8 v0 v3 X3 X4 n).2.2.2, P p
  | 0, _, p, hp => absurd hp (by unfold pb_k0_t1; exact List.not_mem_nil)
  | n + 1, hn, p, hp => by
    have e := pb_k0_t1_succ Variants.none c none i arg2 harg2 arg3 harg3 arg4 harg4 arg5 harg5 arg6 harg6 arg7 harg7 arg8 harg8 v0 v3 X3 X4 ⟨n, hn⟩
    dsimp only at e
    rw [e] at hp
    rcases List.mem_append.mp hp with h | h
    · have h' := (trip8 c i arg2 harg2 arg3 harg3 arg4 harg4 arg5 harg5 arg6 harg6 arg7 harg7 arg8 harg8 v0 v3 X3 X4 ⟨n, hn⟩) ▸ h
      rw [List.mem_singleton.mp h']
      exact hP _
    · exact pb8 v0 v3 X3 X4 P hP n (Nat.le_of_succ_le hn) p h

end Run

/-- The last result's block at an index: the weight of the key among the token's scores. -/
theorem out_at (c : Dev nD) (i : grid0.Coords) (arg2 : Memref sig .tc .vmem S80x128 .i32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S16x1x8x512 .f32) (harg7 : arg7.IsWhole) (arg8 : Memref sig .tc .vmem S16x1x8x512 .f32) (harg8 : arg8.IsWhole)
    (x0 : Vec Ideal S80x128 .i32) (x1 : Vec Ideal S1x128x512 .f32) (x2 : Vec Ideal S1x128x512 .f32) (y : S16x1x8x512.Idx) :
    out0_A_6 c i arg2 harg2 arg3 harg3 arg4 harg4 arg5 harg5 arg6 harg6 arg7 harg7 arg8 harg8 x0 x1 x2 y
      = weight (fun k => x1 (ix3 0 k (y 3))) (key (y 0) (y 2)) := by
  unfold out0_A_6
  refine View.read_writes_apply_of_pieces (v := VO0_6) VO0_6.junk (fun y : S16x1x8x512.Idx => weight (fun k => x1 (ix3 0 k (y 3))) (key (y 0) (y 2))) _ ?_ y
    (cover0_A_6 c i arg2 harg2 arg3 harg3 arg4 harg4 arg5 harg5 arg6 harg6 arg7 harg7 arg8 harg8 x0 x1 x2 y)
  obtain ⟨v0, v3, e⟩ := run8 c i arg2 harg2 arg3 harg3 arg4 harg4 arg5 harg5 arg6 harg6 arg7 harg7 arg8 harg8 x0 x1 x2
  rw [e]
  refine pb8 c i arg2 harg2 arg3 harg3 arg4 harg4 arg5 harg5 arg6 harg6 arg7 harg7 arg8 harg8 v0 v3 _ _ _ (fun k x => ?_) _ le_rfl
  rw [ValueIdx.eq_ix4 x]
  refine (pay_at _ _ _ _ _).trans ?_
  have e2 := k0_off2_eq k
  have e1 := k0_off1_eq k
  refine congrArg₂ weight (funext fun j => (congrFun (harg3.read_unread x1) _).trans
    (congrArg x1 (ext3 _ _ _ _ (rect1 (congrFun e1 0) _) (rect1 (congrFun e1 1) _) ?_))) (congrArg₂ key ?_ ?_)
  · exact (rect2 (congrFun e1 2) _).trans (rect2 (congrFun e2 3) _).symm
  · exact Fin.ext (rect1 (congrFun e2 0) _).symm
  · exact Fin.ext (rect1 (congrFun e2 2) _).symm

end Cert.Keys
end
-- ==== Proof.KeySweep.lean ====
/-
  The selection call's last result, over the whole array: every key's weight, and the same of the reference.
-/
module

public import proofs.«01_k».proof.Proof.KeyTile
public import proofs.«01_k».proof.Proof.Gen.SelectIdeal.Value
public import proofs.«01_k».proof.Proof.Gen.WeightsIdeal.Run
public import Idealize.ShloMosaic.Lib.Pipeline.ValueKit.Geometry

@[expose] public section
set_option maxRecDepth 16384
noncomputable section
namespace Cert.Keys
open Cert.SelectIdeal Cert.SelectIdeal.Gen Idealize.ShloMosaic Idealize.ShloMosaic.TcCoe Idealize.SL.Sem

/-- The weights' array: keys in rows of eight, then the head, the place in the row, and the token. -/
def weights (s : S8x128x16384.Idx → EReal) : S16x8x8x16384.Idx → EReal :=
  fun i => weight (fun k => s (ix3 (i 1) k (i 3))) (key (i 0) (i 2))

/-- The scores' block at a point: one head, all its keys, 512 tokens. -/
theorem idx1 : ∀ t : Fin cfg0.N, win0_1.index t = ![t.val % 8, 0, t.val / 8] :=
  (by decide +kernel : ∀ t : Fin grid0.N, win0_1.index t = ![t.val % 8, 0, t.val / 8])
/-- The weights' block at a point. -/
theorem idx6 : ∀ t : Fin cfg0.N, win0_6.index t = ![0, t.val % 8, 0, t.val / 8] :=
  (by decide +kernel : ∀ t : Fin grid0.N, win0_6.index t = ![0, t.val % 8, 0, t.val / 8])

/-- The last result is every key's weight. -/
theorem final (m : (ℓ : Loc nD τ sig) → Buf (Elt Ideal) ℓ) (c : Dev nD) :
    (dats m 0 c).arrAt 6 cfg0.N = weights (m ((c : Thread nD τ).loc main_arg0)) := by
  refine (dats m 0 c).arrAt_eq_of_covers 6 _ (by decide +kernel) fun t hf y => ?_
  blk_simp
  rw [after0_6]
  refine (out_at c (grid0.coords t) _ _ _ _ _ _ _ _ _ _ _ _ _ _ _ _ _ _).trans ?_
  have e1 := idx1 t
  have e6 := idx6 t
  unfold weights
  refine congrArg₂ weight (funext fun k => ?_) (congrArg₂ key (Fin.ext ?_) (Fin.ext ?_))
  · refine Eq.trans ?_ (congrFun (V_main_arg0 m c) _)
    refine congrArg (V m c main_arg0) (ext3 _ _ _ _ ?_ ?_ ?_)
    · blk_simp [e1, e6]
      rfl
    · blk_simp [e1, e6]
    · blk_simp [e1, e6]
  · blk_simp [e1, e6]
  · blk_simp [e1, e6]

/-- The reference's operations at an index. -/
theorem ref_at (s : FVec Ideal S8x128x16384 .f32) (p : Fin 16) (h : Fin 8) (q : Fin 8) (t : Fin 16384) :
    transpose S16x8x8x16384 [1, 0, 2, 3] (shapeCast _ (Host.exp (subf s (broadcastInDim S8x128x16384 ![0, 1, 2] Cert.WeightsIdeal.Gen.bcast_S8x1x16384_S8x128x16384_0_1_2 (broadcastInDim Cert.WeightsIdeal.S8x1x16384 ![0, 2] Cert.WeightsIdeal.Gen.bcast_S8x16384_S8x1x16384_0_2 (Host.reduce FloatOps.maximumf s (constant Cert.WeightsIdeal.S_ .f32 0xFF800000#32) Cert.WeightsIdeal.Gen.reducesTo_S8x128x16384_S8x16384_d1 Cert.WeightsIdeal.Gen.h_S_))))) Cert.WeightsIdeal.Gen.shapeCasts_S8x128x16384_S8x16x8x16384) Cert.WeightsIdeal.Gen.transposes_S8x16x8x16384_S16x8x8x16384_1_0_2_3 (ix4 p h q t)
      = weights s (ix4 p h q t) := by
  unfold weights weight key
  pointwise

end Cert.Keys
end
-- ==== Proof.Place.lean ====
/-
  A key's place in the descending order of 128 scores, the lower key first among equals; and the search for the key at a
  given place: the first of the largest scores that are left when the keys at the places before it are struck out.
-/
module

public import Idealize.ShloMosaic.Lib.Pointwise

@[expose] public section
noncomputable section
namespace Cert.Rk
open Idealize.ShloMosaic

/-- Key `j` comes before key `k`: its score is larger, or equal with `j` the lower key. -/
def Before (s : Fin 128 → EReal) (j k : Fin 128) : Prop := s k < s j ∨ (s j = s k ∧ j < k)

open Classical in
/-- A key's place: how many keys come before it. -/
def place (s : Fin 128 → EReal) (k : Fin 128) : ℕ := (Finset.univ.filter fun j => Before s j k).card

variable {s : Fin 128 → EReal}

/-- No key comes before itself. -/
theorem before_irrefl (k : Fin 128) : ¬ Before s k k := fun h => h.elim (lt_irrefl _) fun h => lt_irrefl _ h.2

/-- The order is transitive. -/
theorem before_trans {i j k : Fin 128} (h : Before s i j) (h' : Before s j k) : Before s i k := by
  rcases h with h | ⟨h, g⟩ <;> rcases h' with h' | ⟨h', g'⟩
  · exact .inl (h'.trans h)
  · exact .inl (h' ▸ h)
  · exact .inl (h ▸ h')
  · exact .inr ⟨h.trans h', g.trans g'⟩

/-- Of two keys one comes first. -/
theorem before_total {j k : Fin 128} (h : j ≠ k) : Before s j k ∨ Before s k j := by
  rcases lt_trichotomy (s j) (s k) with a | a | a
  · exact .inr (.inl a)
  · rcases lt_or_gt_of_ne h with b | b
    · exact .inl (.inr ⟨a, b⟩)
    · exact .inr (.inr ⟨a.symm, b⟩)
  · exact .inl (.inl a)

/-- The key before has the smaller place. -/
theorem place_lt {j k : Fin 128} (h : Before s j k) : place s j < place s k := by
  classical
  unfold place
  refine Finset.card_lt_card (Finset.ssubset_iff_of_subset (fun i hi => ?_) |>.mpr ⟨j, ?_, ?_⟩)
  · exact Finset.mem_filter.mpr ⟨Finset.mem_univ _, before_trans (Finset.mem_filter.mp hi).2 h⟩
  · exact Finset.mem_filter.mpr ⟨Finset.mem_univ _, h⟩
  · exact fun hj => before_irrefl j (Finset.mem_filter.mp hj).2

/-- Places are below 128. -/
theorem place_lt_card (k : Fin 128) : place s k < 128 := by
  classical
  unfold place
  refine lt_of_lt_of_eq (Finset.card_lt_card (Finset.ssubset_iff_of_subset (Finset.filter_subset _ _) |>.mpr ⟨k, Finset.mem_univ _, ?_⟩)) (by simp)
  exact fun hk => before_irrefl k (Finset.mem_filter.mp hk).2

/-- Two keys have two places. -/
theorem place_inj {j k : Fin 128} (h : place s j = place s k) : j = k := by
  by_contra hn
  rcases before_total (s := s) hn with a | a
  · exact absurd h (place_lt a).ne
  · exact absurd h (place_lt a).ne'

/-- Every place is taken. -/
theorem exists_place {n : ℕ} (hn : n < 128) : ∃ p, place s p = n := by
  have hi : Function.Injective fun k : Fin 128 => (⟨place s k, place_lt_card k⟩ : Fin 128) := fun j k h => place_inj (congrArg Fin.val h)
  obtain ⟨p, hp⟩ := (Finite.injective_iff_surjective.mp hi) ⟨n, hn⟩
  exact ⟨p, congrArg Fin.val hp⟩

/-- A key at a later place does not come before. -/
theorem le_of_place {p j : Fin 128} (h : place s p ≤ place s j) : s j < s p ∨ (s j = s p ∧ p ≤ j) := by
  by_cases e : p = j
  · exact .inr ⟨e ▸ rfl, e.le⟩
  rcases before_total (s := s) e with a | a
  · exact a.imp id fun a => ⟨a.1.symm, a.2.le⟩
  · exact absurd (place_lt a) (not_lt.mpr h)

/-- The scores with the keys at the places before `n` struck out. -/
def left (s : Fin 128 → EReal) (n : ℕ) (k : Fin 128) : EReal := if place s k < n then ⊥ else s k

/-- The largest score left is that of the key at place `n`. -/
theorem max_left {n : ℕ} {p : Fin 128} (hp : place s p = n) : Finset.univ.fold max (⊥ : EReal) (left s n) = s p := by
  apply le_antisymm
  · refine (Finset.fold_max_le _).mpr ⟨bot_le, fun j _ => ?_⟩
    unfold left
    split
    · exact bot_le
    · next h => exact (le_of_place (hp.trans_le (not_lt.mp h))).elim le_of_lt fun h => h.1.le
  · refine (Finset.le_fold_max _).mpr (.inr ⟨p, Finset.mem_univ _, ?_⟩)
    unfold left
    rw [if_neg (by omega)]

/-- A key whose score is the largest left is no lower than the key at place `n`. -/
theorem le_of_left {n : ℕ} {p j : Fin 128} (hp : place s p = n) (hs : s p ≠ ⊥) (h : left s n j = s p) : p ≤ j := by
  unfold left at h
  split at h
  · exact absurd h.symm hs
  · next hn =>
    rcases le_of_place (hp.trans_le (not_lt.mp hn)) with a | a
    · exact absurd h a.ne
    · exact a.2

/-- The least of 128 words, when one is the least. -/
theorem fold_minsi (w : Fin 128 → BitVec 32) (p : Fin 128) (hp : w p = BitVec.ofNat 32 p.val) (h : ∀ j, ∃ g : ℕ, w j = BitVec.ofNat 32 g ∧ p.val ≤ g ∧ g ≤ 128) :
    Finset.univ.fold IntOp.minsi (2147483647#32) w = BitVec.ofNat 32 p.val := by
  have hm : ∀ a b : BitVec 32, (IntOp.minsi a b).toInt = min a.toInt b.toInt := fun a b => by
    unfold IntOp.minsi
    simp only [BitVec.slt, decide_eq_true_eq]
    split <;> omega
  have ho : ∀ g : ℕ, g ≤ 128 → (BitVec.ofNat 32 g).toInt = (g : ℤ) := fun g hg => by
    rw [BitVec.toInt_eq_toNat_cond, BitVec.toNat_ofNat, Nat.mod_eq_of_lt (by omega), if_pos (by omega)]
  have hq := ho p.val (by omega)
  apply BitVec.eq_of_toInt_eq
  rw [← Finset.fold_hom (op := IntOp.minsi) (op' := min) hm]
  apply le_antisymm
  · refine (Finset.fold_min_le _).mpr (.inr ⟨p, Finset.mem_univ _, ?_⟩)
    rw [hp]
  · refine (Finset.le_fold_min _).mpr ⟨?_, fun j _ => ?_⟩
    · have : (2147483647#32 : BitVec 32).toInt = 2147483647 := by decide
      rw [this, hq]
      omega
    · obtain ⟨g, e, h1, h2⟩ := h j
      rw [e, ho g h2, hq]
      exact_mod_cast h1

/-- Two keys' words compare as the keys. -/
theorem slt_key (x k : Fin 128) : IntOp.cmpi .slt (BitVec.ofNat 32 x.val) (BitVec.ofNat 32 k.val) = BitVec.ofBool (decide (x < k)) := by
  have ho : ∀ g : Fin 128, (BitVec.ofNat 32 g.val).toInt = (g.val : ℤ) := fun g => by
    rw [BitVec.toInt_eq_toNat_cond, BitVec.toNat_ofNat, Nat.mod_eq_of_lt (by omega), if_pos (by omega)]
  unfold IntOp.cmpi
  refine congrArg BitVec.ofBool ?_
  simp only [BitVec.slt, ho, Nat.cast_lt, Fin.lt_def]

/-- The word that says whether one key comes before another. -/
theorem before_word (s : Fin 128 → EReal) (x k : Fin 128) [Decidable (Before s x k)] :
    IntOp.ori (BitVec.ofBool (decide (s k < s x))) (IntOp.andi (BitVec.ofBool (decide (s x = s k))) (IntOp.cmpi .slt (BitVec.ofNat 32 x.val) (BitVec.ofNat 32 k.val)))
      = BitVec.ofBool (decide (Before s x k)) := by
  rw [slt_key]
  unfold Before IntOp.ori IntOp.andi
  by_cases h1 : s k < s x <;> by_cases h2 : s x = s k <;> by_cases h3 : x < k <;> simp [h1, h2, h3]

/-- A place is the sum over the keys of one for each key before. -/
theorem place_sum (s : Fin 128 → EReal) (k : Fin 128) :
    (∑ x : Fin 128, (FloatOps.uitofp (F := Ideal) FTy.f32
      (IntOp.ori (BitVec.ofBool (decide (s k < s x))) (IntOp.andi (BitVec.ofBool (decide (s x = s k))) (IntOp.cmpi .slt (BitVec.ofNat 32 x.val) (BitVec.ofNat 32 k.val)))) : EReal))
      = ((place s k : ℝ) : EReal) := by
  classical
  have e : ∀ x : Fin 128, (FloatOps.uitofp (F := Ideal) FTy.f32
      (IntOp.ori (BitVec.ofBool (decide (s k < s x))) (IntOp.andi (BitVec.ofBool (decide (s x = s k))) (IntOp.cmpi .slt (BitVec.ofNat 32 x.val) (BitVec.ofNat 32 k.val)))) : EReal)
      = if Before s x k then 1 else 0 := fun x => by
    rw [before_word]
    show (((BitVec.ofBool (decide (Before s x k))).toNat : ℝ) : EReal) = _
    by_cases h : Before s x k <;> simp [h]
  rw [Finset.sum_congr rfl fun x _ => e x, Finset.sum_boole]
  unfold place
  norm_cast

end Cert.Rk
end
-- ==== Proof.RankTile.lean ====
/-
  The selection call at one grid point: sixteen times, the first of the largest scores left is found, struck out and marked.
-/
module

public import proofs.«01_k».proof.Proof.Gen.RanksIdeal.Frame
public import proofs.«01_k».proof.Proof.Place

@[expose] public section
set_option maxRecDepth 16384
noncomputable section
namespace Cert.Rk
open Cert.RanksIdeal Cert.RanksIdeal.Gen Idealize.ShloMosaic Idealize.ShloMosaic.TcCoe Idealize.SL.Sem

section Steps
variable {F : FTy → Type} [FloatOps F]

/-- The rows' numbers. -/
def io : IVec S128x128 32 := iota .tc S128x128 32 [0] iota_S128x128_d0_w32
/-- The largest score of each column. -/
def top (v : FVec F S128x128 .f32) : FVec F S1x128 .f32 :=
  shapeCast S1x128 (multiReduction .maximumf [0] S128 v 0xFF800000#32 reduces_S128x128_S128 (.inl rfl) rfl) shapeCasts_S128_S1x128
/-- Which scores are the largest. -/
def tied (v : FVec F S128x128 .f32) : IVec S128x128 1 := cmpf .oeq v (broadcastTo S128x128 (top v) broadcasts_S1x128_S128x128)
/-- The first row of a mask. -/
def low (m : IVec S128x128 1) : IVec S128 32 :=
  multiReductionI .minsi [0] S128 (select m io (broadcast S128x128 128#32)) 2147483647#32 reduces_S128x128_S128 rfl
/-- The row that a step picks. -/
def pick (v : FVec F S128x128 .f32) : IVec S128x128 1 :=
  cmpi .eq io (broadcastTo S128x128 (shapeCast S1x128 (low (tied v)) shapeCasts_S128_S1x128) broadcasts_S1x128_S128x128)
/-- The scores with that row struck out. -/
def strike (v : FVec F S128x128 .f32) : FVec F S128x128 .f32 := select (pick v) (broadcast S128x128 (Scalar.ofBits .f32 0xFF800000#32)) v
/-- The ranks with that row marked. -/
def mark (w : BitVec 32) (v r : FVec F S128x128 .f32) : FVec F S128x128 .f32 := select (pick v) (broadcast S128x128 (Scalar.ofBits .f32 w)) r

/-- The scores left after `n` steps. -/
def rem (v : FVec F S128x128 .f32) : ℕ → FVec F S128x128 .f32
  | 0 => v
  | n + 1 => strike (rem v n)

/-- The step's number as a word of a float. -/
def word : ℕ → BitVec 32
  | 0 => 0x00000000#32 | 1 => 0x3F800000#32 | 2 => 0x40000000#32 | 3 => 0x40400000#32
  | 4 => 0x40800000#32 | 5 => 0x40A00000#32 | 6 => 0x40C00000#32 | 7 => 0x40E00000#32
  | 8 => 0x41000000#32 | 9 => 0x41100000#32 | 10 => 0x41200000#32 | 11 => 0x41300000#32
  | 12 => 0x41400000#32 | 13 => 0x41500000#32 | 14 => 0x41600000#32 | 15 => 0x41700000#32
  | _ => 0x41800000#32

/-- The ranks after `n` steps. -/
def rank (v : FVec F S128x128 .f32) : ℕ → FVec F S128x128 .f32
  | 0 => broadcast S128x128 (Scalar.ofBits .f32 0x41800000#32)
  | n + 1 => mark (word n) (rem v n) (rank v n)

variable (v r : FVec F S128x128 .f32)

/-- Steps 0 and 1 on the scores. -/
theorem p64 : k0_pay64 v = strike (strike v) := rfl
/-- Steps 0 and 1 on the ranks. -/
theorem p65 : k0_pay65 v = mark (word 1) (strike v) (mark (word 0) v (broadcast S128x128 (Scalar.ofBits .f32 0x41800000#32))) := rfl
/-- Steps 2 to 4 on the scores. -/
theorem p74 : k0_pay74 io v = strike (strike (strike v)) := rfl
/-- Steps 2 to 4 on the ranks. -/
theorem p75 : k0_pay75 io v r = mark (word 4) (strike (strike v)) (mark (word 3) (strike v) (mark (word 2) v r)) := rfl
/-- The largest score left after them. -/
theorem p77 : k0_pay77 io v = broadcastTo S128x128 (top (strike (strike (strike v)))) broadcasts_S1x128_S128x128 := rfl
/-- Steps 5 to 7 on the scores. -/
theorem p85 : k0_pay85 io v (broadcastTo S128x128 (top v) broadcasts_S1x128_S128x128) = strike (strike (strike v)) := rfl
/-- Steps 5 to 7 on the ranks. -/
theorem p86 : k0_pay86 io v r (broadcastTo S128x128 (top v) broadcasts_S1x128_S128x128) = mark (word 7) (strike (strike v)) (mark (word 6) (strike v) (mark (word 5) v r)) := rfl
/-- The largest scores left after them. -/
theorem p88 : k0_pay88 io v (broadcastTo S128x128 (top v) broadcasts_S1x128_S128x128) = tied (strike (strike (strike v))) := rfl
/-- Steps 8 to 10 on the scores. -/
theorem p97 : k0_pay97 io v (tied v) k0_pay89 = strike (strike (strike v)) := rfl
/-- Steps 8 to 10 on the ranks. -/
theorem p98 : k0_pay98 io v r (tied v) k0_pay89 = mark (word 10) (strike (strike v)) (mark (word 9) (strike v) (mark (word 8) v r)) := rfl
/-- The first of the largest scores left after them. -/
theorem p100 : k0_pay100 io v (tied v) k0_pay89 = low (tied (strike (strike (strike v)))) := rfl
/-- Steps 11 to 13 on the scores. -/
theorem p108 : k0_pay108 io v (low (tied v)) = strike (strike (strike v)) := rfl
/-- Steps 11 to 13 on the ranks. -/
theorem p109 : k0_pay109 io v r (low (tied v)) = mark (word 13) (strike (strike v)) (mark (word 12) (strike v) (mark (word 11) v r)) := rfl
/-- The row picked after them. -/
theorem p111 : k0_pay111 io v (low (tied v)) = pick (strike (strike (strike v))) := rfl
/-- Steps 14 and 15 on the ranks. -/
theorem p114 : k0_pay114 io v r (pick v) = mark (word 15) (strike v) (mark (word 14) v r) := rfl

/-- The sixteen steps, as the program groups them. -/
theorem chain {a a5 a8 a11 a14 b b5 b8 b11 b14 m5 : FVec F S128x128 .f32} {e8 s14 : IVec S128x128 1} {l11 : IVec S128 32}
    (ha : a = k0_pay64 v) (hb : b = k0_pay65 v) (ha5 : a5 = k0_pay74 io a) (hb5 : b5 = k0_pay75 io a b) (hm5 : m5 = k0_pay77 io a)
    (ha8 : a8 = k0_pay85 io a5 m5) (hb8 : b8 = k0_pay86 io a5 b5 m5) (he8 : e8 = k0_pay88 io a5 m5)
    (ha11 : a11 = k0_pay97 io a8 e8 k0_pay89) (hb11 : b11 = k0_pay98 io a8 b8 e8 k0_pay89) (hl11 : l11 = k0_pay100 io a8 e8 k0_pay89)
    (ha14 : a14 = k0_pay108 io a11 l11) (hb14 : b14 = k0_pay109 io a11 b11 l11) (hs14 : s14 = k0_pay111 io a11 l11) :
    k0_pay114 io a14 b14 s14 = rank v 16 := by
  have xa : a = rem v 2 := ha.trans (p64 v)
  have xb : b = rank v 2 := hb.trans (p65 v)
  clear ha hb
  subst xa xb
  have xm5 : m5 = broadcastTo S128x128 (top (rem v 5)) broadcasts_S1x128_S128x128 := hm5.trans (p77 _)
  have xa5 : a5 = rem v 5 := ha5.trans (p74 _)
  have xb5 : b5 = rank v 5 := hb5.trans (p75 _ _)
  clear ha5 hb5 hm5
  subst xa5 xb5 xm5
  have xa8 : a8 = rem v 8 := ha8.trans (p85 _)
  have xb8 : b8 = rank v 8 := hb8.trans (p86 _ _)
  have xe8 : e8 = tied (rem v 8) := he8.trans (p88 _)
  clear ha8 hb8 he8
  subst xa8 xb8 xe8
  have xa11 : a11 = rem v 11 := ha11.trans (p97 _)
  have xb11 : b11 = rank v 11 := hb11.trans (p98 _ _)
  have xl11 : l11 = low (tied (rem v 11)) := hl11.trans (p100 _)
  clear ha11 hb11 hl11
  subst xa11 xb11 xl11
  have xa14 : a14 = rem v 14 := ha14.trans (p108 _)
  have xb14 : b14 = rank v 14 := hb14.trans (p109 _ _)
  have xs14 : s14 = pick (rem v 14) := hs14.trans (p111 _)
  clear ha14 hb14 hs14
  subst xa14 xb14 xs14
  exact p114 _ _

end Steps

section Run
variable {F : FTy → Type} [FloatOps F]
variable (c : Dev nD) (i : grid0.Coords) (arg2 : Memref sig .tc .vmem S80x128 .i32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S16x1x8x512 .f32) (harg7 : arg7.IsWhole) (arg8 : Memref sig .tc .vmem S16x1x8x512 .f32) (harg8 : arg8.IsWhole)
variable (x0 : Vec F S80x128 .i32) (x1 : Vec F S1x128x512 .f32) (x2 : Vec F S1x128x512 .f32)

/-- One trip's store into the first result. -/
theorem trip5 (v0 : Vec F S80x128 .i32) (v3 : IVec S16x128 32) (X3 : BufTy.Contents (Elt F) arg3.view.ty) (X4 : BufTy.Contents (Elt F) arg4.view.ty) (k : Fin k0_t1_loop.trips) :
    (trip_k0_t1 (F := F) Variants.none c none i arg2 harg2 arg3 harg3 arg4 harg4 arg5 harg5 arg6 harg6 arg7 harg7 arg8 harg8 v0 v3 X3 X4 k).1 =
      [⟨Rect.unit (s := S1x128x512) (k0_off1 k) S1x128x128.size (k0_off1_inb k),
        k0_pay200 (rank (k0_pay3 (View.readAt (Elt F) arg4.view (Rect.unit (s := S1x128x512) (k0_off1 k) S1x128x128.size (k0_off1_inb k)).toLoadRect X4)) 16)⟩] := by
  unfold trip_k0_t1
  refine congrArg (fun z => [(⟨Rect.unit (s := S1x128x512) (k0_off1 k) S1x128x128.size (k0_off1_inb k), k0_pay200 z⟩ : View.Piece (Elt F) S1x128x512 .bf16)]) (?_ : trip_k0_t1.sl.r_64 arg4 X4 k = _)
  exact chain _ (a := trip_k0_t1.sl.r_36 arg4 X4 k) (b := trip_k0_t1.sl.r_37 arg4 X4 k) (a5 := trip_k0_t1.sl.r_41 arg4 X4 k) (b5 := trip_k0_t1.sl.r_42 arg4 X4 k)
    (m5 := trip_k0_t1.sl.r_44 arg4 X4 k) (a8 := trip_k0_t1.sl.r_47 arg4 X4 k) (b8 := trip_k0_t1.sl.r_48 arg4 X4 k) (e8 := trip_k0_t1.sl.r_50 arg4 X4 k)
    (a11 := trip_k0_t1.sl.r_53 arg4 X4 k) (b11 := trip_k0_t1.sl.r_54 arg4 X4 k) (l11 := trip_k0_t1.sl.r_56 arg4 X4 k)
    (a14 := trip_k0_t1.sl.r_59 arg4 X4 k) (b14 := trip_k0_t1.sl.r_60 arg4 X4 k) (s14 := trip_k0_t1.sl.r_62 arg4 X4 k)
    rfl rfl rfl rfl rfl rfl rfl rfl rfl rfl rfl rfl rfl rfl

/-- The run's stores into the first result are the trips' stores. -/
theorem run5 :
    ∃ v0 v3, (kernelRun0_A c i arg2 harg2 arg3 harg3 arg4 harg4 arg5 harg5 arg6 harg6 arg7 harg7 arg8 harg8 x0 x1 x2).1 =
      (pb_k0_t1 Variants.none c none i arg2 harg2 arg3 harg3 arg4 harg4 arg5 harg5 arg6 harg6 arg7 harg7 arg8 harg8 v0 v3
        (harg3.unread x1) (harg4.unread x2) k0_t1_loop.trips).1 :=
  ⟨_, _, by unfold kernelRun0_A; rfl⟩

/-- A property of every trip's stores is one of all of them. -/
theorem pb5 (v0 : Vec F S80x128 .i32) (v3 : IVec S16x128 32) (X3 : BufTy.Contents (Elt F) arg3.view.ty) (X4 : BufTy.Contents (Elt F) arg4.view.ty)
    (P : View.Piece (Elt F) S1x128x512 .bf16 → Prop)
    (hP : ∀ k : Fin k0_t1_loop.trips, P ⟨Rect.unit (s := S1x128x512) (k0_off1 k) S1x128x128.size (k0_off1_inb k),
        k0_pay200 (rank (k0_pay3 (View.readAt (Elt F) arg4.view (Rect.unit (s := S1x128x512) (k0_off1 k) S1x128x128.size (k0_off1_inb k)).toLoadRect X4)) 16)⟩) :
    ∀ n : ℕ, n ≤ k0_t1_loop.trips → ∀ p ∈ (pb_k0_t1 Variants.none c none i arg2 harg2 arg3 harg3 arg4 harg4 arg5 harg5 arg6 harg6 arg7 harg7 arg8 harg8 v0 v3 X3 X4 n).1, P p
  | 0, _, p, hp => absurd hp (by unfold pb_k0_t1; exact List.not_mem_nil)
  | n + 1, hn, p, hp => by
    have e := pb_k0_t1_succ Variants.none c none i arg2 harg2 arg3 harg3 arg4 harg4 arg5 harg5 arg6 harg6 arg7 harg7 arg8 harg8 v0 v3 X3 X4 ⟨n, hn⟩
    dsimp only at e
    rw [e] at hp
    rcases List.mem_append.mp hp with h | h
    · have h' := (trip5 c i arg2 harg2 arg3 harg3 arg4 harg4 arg5 harg5 arg6 harg6 arg7 harg7 arg8 harg8 v0 v3 X3 X4 ⟨n, hn⟩) ▸ h
      rw [List.mem_singleton.mp h']
      exact hP _
    · exact pb5 v0 v3 X3 X4 P hP n (Nat.le_of_succ_le hn) p h

end Run

/-- The picked row at an index. -/
theorem pick_at (v : FVec Ideal S128x128 .f32) (s : Fin 128 → EReal) (n : ℕ) (hn : n < 128) (k l : Fin 128)
    (hs : ∀ j, s j ≠ ⊥) (hv : ∀ j, v (ix2 j l) = left s n j) : pick v (ix2 k l) = if place s k = n then 1 else 0 := by
  obtain ⟨p, hp⟩ := exists_place (s := s) hn
  have e : pick v (ix2 k l) = IntOp.cmpi .eq (BitVec.ofNat 32 k.val) (BitVec.ofNat 32 p.val) := by
    unfold pick low tied top io
    pointwise
    refine congrArg (IntOp.cmpi .eq _) ?_
    have hb : (Ideal.ofBits FTy.f32 4286578688#32 : EReal) = ⊥ := by simp [Ideal.ofBits, Ideal.ieee]
    have hm : Finset.fold max (Ideal.ofBits FTy.f32 4286578688#32 : EReal) (fun x => v (ix2 x l)) Finset.univ = s p := by
      rw [hb, ← max_left hp]
      exact congrArg (fun f => Finset.fold max (⊥ : EReal) f Finset.univ) (funext hv)
    refine fold_minsi _ p ?_ fun j => ?_
    · refine if_pos ((hv p).trans (Eq.trans ?_ hm.symm))
      unfold left
      rw [if_neg (by omega)]
    · split
      · next h => exact ⟨j.val, rfl, le_of_left hp (hs p) ((hv j).symm.trans (h.trans hm)), j.isLt.le⟩
      · exact ⟨128, rfl, p.isLt.le, le_rfl⟩
  rw [e]
  unfold IntOp.cmpi
  by_cases h : k = p
  · subst h
    simp [hp]
  · have h1 : place s k ≠ n := fun g => h (place_inj (g.trans hp.symm))
    have h2 : (BitVec.ofNat 32 k.val == BitVec.ofNat 32 p.val) = false := by
      refine beq_eq_false_iff_ne.mpr fun g => h (Fin.ext ?_)
      have := congrArg BitVec.toNat g
      simp only [BitVec.toNat_ofNat] at this
      omega
    simp [h1, h2]

/-- A step on the scores at an index. -/
theorem strike_at (v : FVec Ideal S128x128 .f32) (k l : Fin 128) : strike v (ix2 k l) = if pick v (ix2 k l) = 1 then ⊥ else v (ix2 k l) := by
  have hb : (Ideal.ofBits FTy.f32 4286578688#32 : EReal) = ⊥ := by simp [Ideal.ofBits, Ideal.ieee]
  unfold strike
  pointwise
  rw [hb]
  rfl

/-- A step on the ranks at an index. -/
theorem mark_at (w : BitVec 32) (v r : FVec Ideal S128x128 .f32) (k l : Fin 128) :
    mark w v r (ix2 k l) = if pick v (ix2 k l) = 1 then Ideal.ofBits .f32 w else r (ix2 k l) := by
  unfold mark
  pointwise
  rfl

/-- The step's number as a real. -/
theorem word_val (n : ℕ) (h : n < 17) : (Ideal.ofBits .f32 (word n) : EReal) = ((n : ℝ) : EReal) := by
  interval_cases n <;> simp [word, Ideal.ofBits, Ideal.ieee, -EReal.coe_mul] <;> norm_num

/-- The scores and the ranks after `n` steps, at an index. -/
theorem steps_at (v : FVec Ideal S128x128 .f32) (l : Fin 128) (hs : ∀ j : Fin 128, v (ix2 j l) ≠ (⊥ : EReal)) (n : ℕ) (hn : n ≤ 16) :
    ∀ k : Fin 128, rem v n (ix2 k l) = left (fun j => v (ix2 j l)) n k ∧
      rank v n (ix2 k l) = if place (fun j => v (ix2 j l)) k < n then ((place (fun j => v (ix2 j l)) k : ℝ) : EReal) else ((16 : ℝ) : EReal) := by
  induction n with
  | zero =>
    intro k
    refine ⟨(if_neg (Nat.not_lt_zero _)).symm, Eq.trans ?_ (if_neg (Nat.not_lt_zero _)).symm⟩
    have := word_val 16 (by omega)
    exact this
  | succ n ih =>
    intro k
    have hp := pick_at (rem v n) (fun j => v (ix2 j l)) n (by omega) k l hs fun j => (ih (by omega) j).1
    obtain ⟨h1, h2⟩ := ih (by omega) k
    constructor
    · show strike (rem v n) (ix2 k l) = _
      rw [strike_at, hp, h1]
      unfold left
      by_cases h : place (fun j => v (ix2 j l)) k = n
      · rw [if_pos h, if_pos rfl, if_pos (by omega)]
      · rw [if_neg h, if_neg (by decide)]
        exact if_congr (by omega) rfl rfl
    · show mark (word n) (rem v n) (rank v n) (ix2 k l) = _
      rw [mark_at, hp, h2]
      by_cases h : place (fun j => v (ix2 j l)) k = n
      · rw [if_pos h, if_pos rfl, if_pos (by omega), word_val n (by omega), h]
      · rw [if_neg h, if_neg (by decide)]
        exact if_congr (by omega) rfl rfl

/-- A key's rank: its place among the first sixteen, and sixteen past them. -/
def ranked (s : Fin 128 → EReal) (k : Fin 128) : EReal := if place s k < 16 then ((place s k : ℝ) : EReal) else ((16 : ℝ) : EReal)

/-- The stored ranks at an index. -/
theorem pay_at (z : FVec Ideal S1x128x128 .f32) (a : Fin 1) (k l : Fin 128) (h : ∀ j : Fin 128, z (ix3 a j l) ≠ (⊥ : EReal)) :
    k0_pay200 (F := Ideal) (rank (k0_pay3 z) 16) (ix3 a k l) = ranked (fun j => z (ix3 a j l)) k := by
  have e : ∀ j : Fin 128, k0_pay3 z (ix2 j l) = z (ix3 a j l) := fun j => by
    unfold k0_pay3
    pointwise
    exact congrArg (fun b : Fin 1 => z (ix3 b j l)) (Subsingleton.elim _ _)
  have e' : (fun j : Fin 128 => k0_pay3 z (ix2 j l)) = fun j => z (ix3 a j l) := funext e
  have r := (steps_at (k0_pay3 z) l (fun j => by rw [e]; exact h j) 16 le_rfl k).2
  rw [e'] at r
  refine Eq.trans ?_ r
  unfold k0_pay200
  pointwise

/-- Two indices with equal coordinates are one. -/
theorem ext3 {n0 n1 n2 : ℕ} (f g : (⟨3, ![n0, n1, n2]⟩ : Shape).Idx) (h0 : (f 0).val = (g 0).val) (h1 : (f 1).val = (g 1).val) (h2 : (f 2).val = (g 2).val) : f = g := by
  rw [ValueIdx.eq_ix3 f, ValueIdx.eq_ix3 g]
  exact congr (congrArg₂ ix3 (Fin.ext h0) (Fin.ext h1)) (Fin.ext h2)

/-- A rectangle's coordinate on an axis from its start. -/
theorem rect1 {o : ℕ} (h : o = 0) (n : ℕ) : o + 1 * n = n := by omega

/-- The first result's block at an index: the rank of the key among the token's scores. -/
theorem out_at (c : Dev nD) (i : grid0.Coords) (arg2 : Memref sig .tc .vmem S80x128 .i32) (harg2 : arg2.IsWhole) (arg3 : Memref sig .tc .vmem S1x128x512 .f32) (harg3 : arg3.IsWhole) (arg4 : Memref sig .tc .vmem S1x128x512 .f32) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S16x1x8x512 .f32) (harg7 : arg7.IsWhole) (arg8 : Memref sig .tc .vmem S16x1x8x512 .f32) (harg8 : arg8.IsWhole)
    (x0 : Vec Ideal S80x128 .i32) (x1 : Vec Ideal S1x128x512 .f32) (x2 : Vec Ideal S1x128x512 .f32) (hx : ∀ j, x2 j ≠ (⊥ : EReal)) (y : S1x128x512.Idx) :
    out0_A_3 c i arg2 harg2 arg3 harg3 arg4 harg4 arg5 harg5 arg6 harg6 arg7 harg7 arg8 harg8 x0 x1 x2 y
      = ranked (fun k => x2 (ix3 0 k (y 2))) (y 1) := by
  unfold out0_A_3
  refine View.read_writes_apply_of_pieces (v := VO0_3) VO0_3.junk (fun y : S1x128x512.Idx => ranked (fun k => x2 (ix3 0 k (y 2))) (y 1)) _ ?_ y
    (cover0_A_3 c i arg2 harg2 arg3 harg3 arg4 harg4 arg5 harg5 arg6 harg6 arg7 harg7 arg8 harg8 x0 x1 x2 y)
  obtain ⟨v0, v3, e⟩ := run5 c i arg2 harg2 arg3 harg3 arg4 harg4 arg5 harg5 arg6 harg6 arg7 harg7 arg8 harg8 x0 x1 x2
  rw [e]
  refine pb5 c i arg2 harg2 arg3 harg3 arg4 harg4 arg5 harg5 arg6 harg6 arg7 harg7 arg8 harg8 v0 v3 _ _ _ (fun k x => ?_) _ le_rfl
  rw [ValueIdx.eq_ix3 x]
  refine (pay_at _ _ _ _ fun j => ?_).trans ?_
  · intro g
    exact hx _ ((congrFun (harg4.read_unread x2) _).symm.trans g)
  have e1 := k0_off1_eq k
  refine congrArg₂ ranked (funext fun j => (congrFun (harg4.read_unread x2) _).trans
    (congrArg x2 (ext3 _ _ ?_ (rect1 (congrFun e1 1) _) rfl))) (Fin.ext (rect1 (congrFun e1 1) _).symm)
  exact Nat.lt_one_iff.mp (Fin.isLt _)

end Cert.Rk
end
-- ==== Proof.RankSweep.lean ====
/-
  The selection call's first result, over the whole array: every key's rank, and the same of the reference.
-/
module

public import proofs.«01_k».proof.Proof.RankTile
public import proofs.«01_k».proof.Proof.Gen.RanksIdeal.Value
public import proofs.«01_k».proof.Proof.Gen.OrderIdeal.Run
public import proofs.«01_k».proof.Pre_scores_above
public import Idealize.ShloMosaic.Lib.Pipeline.ValueKit.Geometry

@[expose] public section
set_option maxRecDepth 16384
noncomputable section
namespace Cert.Rk
open Cert.RanksIdeal Cert.RanksIdeal.Gen Idealize.ShloMosaic Idealize.ShloMosaic.TcCoe Idealize.SL.Sem

/-- The ranks' array: the head, the key and the token. -/
def ranks (s : S8x128x16384.Idx → EReal) : S8x128x16384.Idx → EReal :=
  fun i => ranked (fun k => s (ix3 (i 0) k (i 2))) (i 1)

/-- The scores' block at a point: one head, all its keys, 512 tokens. -/
theorem idx2 : ∀ t : Fin cfg0.N, win0_2.index t = ![t.val % 8, 0, t.val / 8] :=
  (by decide +kernel : ∀ t : Fin grid0.N, win0_2.index t = ![t.val % 8, 0, t.val / 8])
/-- The ranks' block at a point. -/
theorem idx3 : ∀ t : Fin cfg0.N, win0_3.index t = ![t.val % 8, 0, t.val / 8] :=
  (by decide +kernel : ∀ t : Fin grid0.N, win0_3.index t = ![t.val % 8, 0, t.val / 8])

/-- The first result is every key's rank. -/
theorem final (m : (ℓ : Loc nD τ sig) → Buf (Elt Ideal) ℓ) (c : Dev nD) (hm : ∀ j, m ((c : Thread nD τ).loc main_arg1) j ≠ (⊥ : EReal)) :
    (dats m 0 c).arrAt 3 cfg0.N = ranks (m ((c : Thread nD τ).loc main_arg1)) := by
  refine (dats m 0 c).arrAt_eq_of_covers 3 _ (by decide +kernel) fun t hf y => ?_
  blk_simp
  rw [after0_3]
  refine (out_at c (grid0.coords t) _ _ _ _ _ _ _ _ _ _ _ _ _ _ _ _ _ (fun j g => ?_) _).trans ?_
  · exact hm _ ((congrFun (V_main_arg1 m c) _).symm.trans g)
  have e2 := idx2 t
  have e3 := idx3 t
  unfold ranks
  refine congrArg₂ ranked (funext fun k => ?_) (Fin.ext ?_)
  · refine Eq.trans ?_ (congrFun (V_main_arg1 m c) _)
    refine congrArg (V m c main_arg1) (ext3 _ _ ?_ ?_ ?_)
    · blk_simp [e2, e3]
      rfl
    · blk_simp [e2, e3]
    · blk_simp [e2, e3]
  · blk_simp [e2, e3]

open Cert.OrderIdeal.Gen in
/-- The reference's operations at an index. -/
theorem ref_at (s : FVec Ideal S8x128x16384 .f32) (h : Fin 8) (k : Fin 128) (t : Fin 16384) :
    truncf (F := Ideal) .bf16 (minimumf (Host.reduceAdd (uitofp .f32 (ori (cmpf .ogt (broadcastInDim Cert.OrderIdeal.S8x128x128x16384 ![0, 1, 2, 3] bcast_S8x1x128x16384_S8x128x128x16384_0_1_2_3 (broadcastInDim Cert.OrderIdeal.S8x1x128x16384 ![0, 2, 3] bcast_S8x128x16384_S8x1x128x16384_0_2_3 s)) (broadcastInDim Cert.OrderIdeal.S8x128x128x16384 ![0, 1, 2, 3] bcast_S8x128x1x16384_S8x128x128x16384_0_1_2_3 (broadcastInDim Cert.OrderIdeal.S8x128x1x16384 ![0, 1, 3] bcast_S8x128x16384_S8x128x1x16384_0_1_3 s))) (andi (cmpf .oeq (broadcastInDim Cert.OrderIdeal.S8x128x128x16384 ![0, 1, 2, 3] bcast_S8x1x128x16384_S8x128x128x16384_0_1_2_3 (broadcastInDim Cert.OrderIdeal.S8x1x128x16384 ![0, 2, 3] bcast_S8x128x16384_S8x1x128x16384_0_2_3 s)) (broadcastInDim Cert.OrderIdeal.S8x128x128x16384 ![0, 1, 2, 3] bcast_S8x128x1x16384_S8x128x128x16384_0_1_2_3 (broadcastInDim Cert.OrderIdeal.S8x128x1x16384 ![0, 1, 3] bcast_S8x128x16384_S8x128x1x16384_0_1_3 s))) (broadcastInDim Cert.OrderIdeal.S8x128x128x16384 ![0, 1, 2, 3] bcast_S1x128x128x1_S8x128x128x16384_0_1_2_3 (broadcastInDim Cert.OrderIdeal.S1x128x128x1 ![1, 2] bcast_S128x128_S1x128x128x1_1_2 (cmpi .slt (broadcastInDim Cert.OrderIdeal.S128x128 ![0, 1] bcast_S1x128_S128x128_0_1 (broadcastInDim Cert.OrderIdeal.S1x128 ![1] bcast_S128_S1x128_1 (iotaInDim Cert.OrderIdeal.S128 32 0))) (broadcastInDim Cert.OrderIdeal.S128x128 ![0, 1] bcast_S128x1_S128x128_0_1 (broadcastInDim Cert.OrderIdeal.S128x1 ![0] bcast_S128_S128x1_0 (iotaInDim Cert.OrderIdeal.S128 32 0))))))))) (constant Cert.OrderIdeal.S_ .f32 0x00000000#32) reducesTo_S8x128x128x16384_S8x128x16384_d2 h_S_) (broadcastInDim Cert.OrderIdeal.S8x128x16384 ![] bcast_S_S8x128x16384 (constant Cert.OrderIdeal.S_ .f32 0x41800000#32))) Cert.OrderIdeal.Gen.bitsLt_bf16_f32 (ix3 h k t)
      = ranks s (ix3 h k t) := by
  pointwise
  refine Eq.trans (congrArg₂ min (place_sum (fun j => s (ix3 h j t)) k) (word_val 16 (by omega))) ?_
  unfold ranks ranked
  show min ((place (fun j => s (ix3 h j t)) k : ℝ) : EReal) ((16 : ℕ) : ℝ) = if place (fun j => s (ix3 h j t)) k < 16 then _ else _
  split
  · next g => exact min_eq_left (EReal.coe_le_coe_iff.mpr (by exact_mod_cast g.le))
  · next g => exact min_eq_right (EReal.coe_le_coe_iff.mpr (by exact_mod_cast not_lt.mp g))

/-- The precondition at an index: the second half's scores are above minus infinity. -/
theorem above_at [Cert.Pre_scores_above.Facts] (s1 s2 : FVec Ideal S8x128x16384 .f32) (h : Cert.Pre_scores_above.fn (F := Ideal) s1 s2 = fun _ => 1#1)
    (a : Fin 8) (b : Fin 128) (c : Fin 16384) : s2 (ix3 a b c) ≠ (⊥ : EReal) := by
  have hb : (Ideal.ofBits FTy.f32 4286578688#32 : EReal) = ⊥ := by simp [Ideal.ofBits, Ideal.ieee]
  have g := congrFun h (ix3 a b c)
  unfold Cert.Pre_scores_above.fn at g
  intro e
  revert g
  pointwise
  rw [hb, e]
  simp

/-- The same at any index. -/
theorem above [Cert.Pre_scores_above.Facts] (s1 s2 : FVec Ideal S8x128x16384 .f32) (h : Cert.Pre_scores_above.fn (F := Ideal) s1 s2 = fun _ => 1#1)
    (j : S8x128x16384.Idx) : s2 j ≠ (⊥ : EReal) := by
  rw [ValueIdx.eq_ix3 j]
  exact above_at s1 s2 h _ _ _

end Cert.Rk
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.RefOut
public import proofs.«01_k».proof.Proof.Sweep
public import proofs.«01_k».proof.Proof.KeySweep
public import proofs.«01_k».proof.Proof.RankSweep
public import proofs.«01_k».proof.Proof.Gen.Select
public import proofs.«01_k».proof.Proof.Gen.Select.Frame
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Points
public import proofs.«01_k».proof.Proof.Gen.SelectIdeal.Frame
public import proofs.«01_k».proof.Proof.Gen.SelectIdeal.Value
public import proofs.«01_k».proof.Proof.Gen.WeightsIdeal
public import proofs.«01_k».proof.Proof.Gen.WeightsIdeal.Run
public import proofs.«01_k».proof.Proof.Gen.Ranks
public import proofs.«01_k».proof.Proof.Gen.Ranks.Frame
public import proofs.«01_k».proof.Proof.Gen.RanksIdeal
public import proofs.«01_k».proof.Proof.Gen.RanksIdeal.Skeleton
public import proofs.«01_k».proof.Proof.Gen.RanksIdeal.Launch
public import proofs.«01_k».proof.Proof.Gen.RanksIdeal.Points
public import proofs.«01_k».proof.Proof.Gen.RanksIdeal.Frame
public import proofs.«01_k».proof.Proof.Gen.RanksIdeal.Value
public import proofs.«01_k».proof.Proof.Gen.OrderIdeal
public import proofs.«01_k».proof.Proof.Gen.OrderIdeal.Run
public import Idealize.ShloMosaic.Adequacy
public import Idealize.ShloMosaic.Init

@[expose] public section

noncomputable section

namespace Cert.Proof

open Idealize.ShloMosaic Idealize.SL.Sem Idealize.ShloMosaic.StableHlo Cert.Front

/-- The reference's frame: its run leaves the arguments as they were, and it declares no semaphore. -/
theorem frame_ri : Cert.quiescent_ReferenceIdeal (hReferenceIdeal := Cert.ReferenceIdeal.Gen.facts) := by
  intro m g _
  exact (θ_run Cert.ReferenceIdeal.defs _ _).mono (fun r h => ⟨fun c => (h c).2.2.2.2, sem_eq_zero_of_no_sems (by decide) r.2⟩)
    (Cert.ReferenceIdeal.Value.run (F := Ideal) m g)

/-- Equal arguments give both programs the same layer. -/
theorem inp_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Ref.inp (launchContents m' c) = Tile.inpK m c := by
  obtain ⟨h0, h1, h2, h3, h4, h5, h6, h7, h8, h9, h10, h11, h12⟩ := h
  have e : ∀ {a0 b0 a1 b1 a2 b2 a3 b3 a4 b4 a5 b5 a6 b6 a7 b7 a8 b8 a9 b9 a10 b10 a11 b11 a12 b12}, a0 = b0 → a1 = b1 → a2 = b2 → a3 = b3 → a4 = b4 → a5 = b5 → a6 = b6
      → a7 = b7 → a8 = b8 → a9 = b9 → a10 = b10 → a11 = b11 → a12 = b12
      → argsIn a0 a1 a2 a3 a4 a5 a6 a7 a8 a9 a10 a11 a12 = argsIn b0 b1 b2 b3 b4 b5 b6 b7 b8 b9 b10 b11 b12 := by
    intros
    subst_vars
    rfl
  exact e h0 h1 h2 h3 h4 h5 h6 h7 h8 h9 h10 h11 h12

/-- Over the extended reals the kernel and the reference, on equal arguments, end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G15 m c, fun c => Cert.KernelIdeal.Value.G16 m c, fun c => Cert.KernelIdeal.Value.G17 m c,
    fun c => Cert.KernelIdeal.Value.G18 m c, Cert.KernelIdeal.Value.run (F := Ideal) m g, ?_⟩
  refine (θ_run Cert.ReferenceIdeal.defs _ _).mono (fun r h c => ?_) (Cert.ReferenceIdeal.Value.run (F := Ideal) m' g')
  obtain ⟨r0, r1, r2, r3, hr⟩ := h c
  have e := inp_eq m m' c (hargs c)
  refine ⟨r0.trans ((Ref.out0_eq _).trans ?_), r1.trans ((Ref.out1_eq _).trans ?_), r2.trans ((Ref.out2_eq _).trans ?_),
    r3.trans ((Ref.out3_eq _).trans ?_), hr⟩
  · exact funext fun i => (congrArg (fun a => hh a (i 0).val (i 1).val) e).trans (Tile.g15 m c i).symm
  · exact funext fun i => (congrArg (fun a => hh a (i 1).val (i 0).val) e).trans (Tile.g16 m c i).symm
  · exact funext fun i => (congrArg (fun a => sc1 a (i 0).val (i 1).val (i 2).val) e).trans (Tile.g17 m c i).symm
  · exact funext fun i => (congrArg (fun a => sc2 a (i 0).val (i 1).val (i 2).val) e).trans (Tile.g18 m c i).symm

/-- The weights' reference: its run leaves the arguments as they were, and it declares no semaphore. -/
theorem frame_wi : Cert.quiescent_WeightsIdeal (hWeightsIdeal := Cert.WeightsIdeal.Gen.facts) := by
  intro m g _
  exact (θ_run Cert.WeightsIdeal.defs _ _).mono (fun r h => ⟨fun c => (h c).2, sem_eq_zero_of_no_sems (by decide) r.2⟩)
    (Cert.WeightsIdeal.Value.run (F := Ideal) m g)

/-- Over the extended reals the selection call's last result is the reference's weights, for all arguments. -/
theorem algebraic_weights : Cert.algebraic_SelectIdeal_WeightsIdeal (hSelectIdeal := Cert.SelectIdeal.Gen.facts)
    (hWeightsIdeal := Cert.WeightsIdeal.Gen.facts) := by
  intro m g m' g' _ hargs
  refine ⟨fun c => Keys.weights (m ((c.tc : Thread Cert.SelectIdeal.nD Cert.SelectIdeal.τ).loc Cert.SelectIdeal.main_arg0)), ?_, ?_⟩
  · refine (θ_run Cert.SelectIdeal.defs _ _).mono (fun r h c => ?_) (Cert.SelectIdeal.Value.run_blocks (F := Ideal) m g)
    obtain ⟨_, _, _, h3, ha⟩ := h c
    exact ⟨h3.trans (Keys.final m c), ha⟩
  · refine (θ_run Cert.WeightsIdeal.defs _ _).mono (fun r h c => ?_) (Cert.WeightsIdeal.Value.run (F := Ideal) m' g')
    obtain ⟨h6, ha⟩ := h c
    refine ⟨h6.trans ?_, ha⟩
    refine Eq.trans (funext fun i => ?_) (congrArg Keys.weights (hargs c).1)
    rw [ValueIdx.eq_ix4 i]
    exact Keys.ref_at _ _ _ _ _

/-- The ranks' reference: its run leaves the arguments as they were, and it declares no semaphore. -/
theorem frame_oi : Cert.quiescent_OrderIdeal (hOrderIdeal := Cert.OrderIdeal.Gen.facts) := by
  intro m g _
  exact (θ_run Cert.OrderIdeal.defs _ _).mono (fun r h => ⟨fun c => (h c).2, sem_eq_zero_of_no_sems (by decide) r.2⟩)
    (Cert.OrderIdeal.Value.run (F := Ideal) m g)

/-- The shape relation that the precondition takes. -/
theorem facts_above : Cert.Pre_scores_above.Facts := ⟨Cert.OrderIdeal.Gen.bcast_S_S8x128x16384⟩

/-- Over the extended reals the selection call's first result is the reference's ranks, for scores above minus infinity. -/
theorem algebraic_ranks : Cert.algebraic_RanksIdeal_OrderIdeal_pre_scores_above (hRanksIdeal := Cert.RanksIdeal.Gen.facts)
    (hOrderIdeal := Cert.OrderIdeal.Gen.facts) (hPre_scores_above := facts_above) := by
  intro m g m' g' hpre hargs
  have := facts_above
  refine ⟨fun c => Rk.ranks (m ((c.tc : Thread Cert.RanksIdeal.nD Cert.RanksIdeal.τ).loc Cert.RanksIdeal.main_arg1)), ?_, ?_⟩
  · refine (θ_run Cert.RanksIdeal.defs _ _).mono (fun r h c => ?_) (Cert.RanksIdeal.Value.run_blocks (F := Ideal) m g)
    obtain ⟨h0, _, _, _, ha⟩ := h c
    exact ⟨h0.trans (Rk.final m c (Rk.above _ _ (hpre c))), ha⟩
  · refine (θ_run Cert.OrderIdeal.defs _ _).mono (fun r h c => ?_) (Cert.OrderIdeal.Value.run (F := Ideal) m' g')
    obtain ⟨h22, ha⟩ := h c
    refine ⟨h22.trans ?_, ha⟩
    refine Eq.trans (funext fun i => ?_) (congrArg Rk.ranks (hargs c).2)
    rw [ValueIdx.eq_ix3 i]
    exact Rk.ref_at _ _ _ _

/-- Everything the certificate claims. -/
theorem claim : Cert.Claim := ⟨Cert.Kernel.Gen.facts, Cert.KernelIdeal.Gen.facts, Cert.ReferenceIdeal.Gen.facts,
  Cert.Select.Gen.facts, Cert.SelectIdeal.Gen.facts, Cert.WeightsIdeal.Gen.facts,
  Cert.Ranks.Gen.facts, Cert.RanksIdeal.Gen.facts, Cert.OrderIdeal.Gen.facts, facts_above,
  fun m ρ _ => Cert.Kernel.Gen.frame m ρ, fun m ρ _ => Cert.KernelIdeal.Gen.frame m ρ, frame_ri,
  fun m ρ _ => Cert.Select.Gen.frame m ρ, fun m ρ _ => Cert.SelectIdeal.Gen.frame m ρ, frame_wi,
  fun m ρ _ => Cert.Ranks.Gen.frame m ρ, fun m ρ _ => Cert.RanksIdeal.Gen.frame m ρ, fun m ρ _ => Cert.RanksIdeal.Gen.frame m ρ,
  frame_oi, fun m g _ => frame_oi m g trivial,
  trivial, algebraic, trivial, algebraic_weights, trivial, algebraic_ranks⟩

end Cert.Proof

end
